-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_first_index_names_a_point [hPre_first_index_names_a_point : Cert.Pre_first_index_names_a_point.Facts] (m : (ℓ : Loc Cert.KernelIdeal.nD Cert.KernelIdeal.τ Cert.KernelIdeal.sig) → Buf (Elt Ideal) ℓ) : Prop :=
  ∀ c : Dev Cert.KernelIdeal.nD,
    (Cert.Pre_first_index_names_a_point.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_index_names_a_point [hPre_first_index_names_a_point : Cert.Pre_first_index_names_a_point.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_index_names_a_point.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_first_index_names_a_point [hKernelIdeal : Cert.KernelIdeal.Facts] [hPre_first_index_names_a_point : Cert.Pre_first_index_names_a_point.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_first_index_names_a_point m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_first_index_names_a_point [hReferenceIdeal : Cert.ReferenceIdeal.Facts] [hPre_first_index_names_a_point : Cert.Pre_first_index_names_a_point.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_index_names_a_point m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_first_index_names_a_point [hKernelIdeal : Cert.KernelIdeal.Facts] [hReferenceIdeal : Cert.ReferenceIdeal.Facts] [hPre_first_index_names_a_point : Cert.Pre_first_index_names_a_point.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_first_index_names_a_point m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_first_index_names_a_point : Cert.Pre_first_index_names_a_point.Facts),
    quiescent_Kernel (hKernel := hKernel)
    ∧ quiescent_KernelIdeal (hKernelIdeal := hKernelIdeal)
    ∧ quiescent_KernelIdeal_pre_first_index_names_a_point (hKernelIdeal := hKernelIdeal) (hPre_first_index_names_a_point := hPre_first_index_names_a_point)
    ∧ quiescent_ReferenceIdeal (hReferenceIdeal := hReferenceIdeal)
    ∧ quiescent_ReferenceIdeal_pre_first_index_names_a_point (hReferenceIdeal := hReferenceIdeal) (hPre_first_index_names_a_point := hPre_first_index_names_a_point)
    ∧ preserves_Kernel_KernelIdeal
    ∧ algebraic_KernelIdeal_ReferenceIdeal_pre_first_index_names_a_point (hKernelIdeal := hKernelIdeal) (hReferenceIdeal := hReferenceIdeal) (hPre_first_index_names_a_point := hPre_first_index_names_a_point)
-- ==== Pre_first_index_names_a_point.lean ====
abbrev S8x16384x3 : Shape := ⟨3, ![8, 16384, 3]⟩
abbrev S8 : Shape := ⟨1, ![8]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S8x16384x3 .f32) (main_arg1 : IVec S8 32) : IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 16384#32
  let main_v2 : IVec S8 32 := broadcastInDim S8 ![] bcast_S_S8 main_c_0
  let main_v3 : IVec S8 1 := cmpi .slt main_arg1 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  main_v5
-- ==== Kernel.lean ====
abbrev S8x16384x3 : Shape := ⟨3, ![8, 16384, 3]⟩
abbrev S8 : Shape := ⟨1, ![8]⟩
abbrev S3x8x16384 : Shape := ⟨3, ![3, 8, 16384]⟩
abbrev S3x8x32x512 : Shape := ⟨4, ![3, 8, 32, 512]⟩
abbrev S3x32x8x512 : Shape := ⟨4, ![3, 32, 8, 512]⟩
abbrev S8x1 : Shape := ⟨2, ![8, 1]⟩
abbrev S8x512 : Shape := ⟨2, ![8, 512]⟩
abbrev S32x8x512 : Shape := ⟨3, ![32, 8, 512]⟩
abbrev S4x8x1 : Shape := ⟨3, ![4, 8, 1]⟩
abbrev S1x8x512 : Shape := ⟨3, ![1, 8, 512]⟩
abbrev S1x1x8x512 : Shape := ⟨4, ![1, 1, 8, 512]⟩
abbrev S1x8x1 : Shape := ⟨3, ![1, 8, 1]⟩
abbrev S1 : Shape := ⟨1, ![1]⟩
abbrev S1x1x1 : Shape := ⟨3, ![1, 1, 1]⟩

abbrev nBuf : Space → Nat
  | .hbm => 7
  | .vmem => 5
  | .smem => 0
  | _ => 0

abbrev bufTy : (tb : Table) → Fin (tcTables nBuf tb) → BufTy
  | .hbm, ⟨0, _⟩ => ⟨S8x16384x3, .f32⟩
  | .hbm, ⟨1, _⟩ => ⟨S8, .i32⟩
  | .hbm, ⟨2, _⟩ => ⟨S3x8x16384, .f32⟩
  | .hbm, ⟨3, _⟩ => ⟨S3x8x32x512, .f32⟩
  | .hbm, ⟨4, _⟩ => ⟨S3x32x8x512, .f32⟩
  | .hbm, ⟨5, _⟩ => ⟨S8x1, .i32⟩
  | .hbm, ⟨6, _⟩ => ⟨S8x512, .i32⟩
  | .local _ .vmem, ⟨0, _⟩ => ⟨S3x32x8x512, .f32⟩
  | .local _ .vmem, ⟨1, _⟩ => ⟨S8x1, .i32⟩
  | .local _ .vmem, ⟨2, _⟩ => ⟨S8x512, .i32⟩
  | .local _ .vmem, ⟨3, _⟩ => ⟨S32x8x512, .f32⟩
  | .local _ .vmem, ⟨4, _⟩ => ⟨S4x8x1, .f32⟩
  | _, _ => ⟨S8x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_679 : BitVec 32 := 0#32
  let c256_i32 : BitVec 32 := 256#32
  let v939 : BitVec 32 := Scalar.addi c0_i32_679 c256_i32
  let c1_i32 : BitVec 32 := 1#32
  ⟨c0_i32_679, v939, c1_i32⟩
@[reducible] def k0_t2_loop : Scf.Loop 32 :=
  let c0_i32_2009 : BitVec 32 := 0#32
  let c32_i32 : BitVec 32 := 32#32
  let v3156 : BitVec 32 := Scalar.addi c0_i32_2009 c32_i32
  let c1_i32_2010 : BitVec 32 := 1#32
  ⟨c0_i32_2009, v3156, c1_i32_2010⟩
def k0_off1 (k0_t2 : Fin k0_t2_loop.trips) : Fin 3 → Nat :=
  let c0_i32_2009 : BitVec 32 := 0#32
  let c1_i32_2010 : BitVec 32 := 1#32
  let arg10 : BitVec 32 := Scf.iv c0_i32_2009 c1_i32_2010 k0_t2
  let v3192 : Index := Scalar.indexCast arg10
  let c0_2033 : Index := 0#32
  let c0_2034 : Index := 0#32
  ![v3192.toNat, 0, 0]
def k0_off2 (k0_t2 : Fin k0_t2_loop.trips) : Fin 4 → Nat :=
  let c0_2036 : Index := 0#32
  let c0_i32_2009 : BitVec 32 := 0#32
  let c1_i32_2010 : BitVec 32 := 1#32
  let arg10 : BitVec 32 := Scf.iv c0_i32_2009 c1_i32_2010 k0_t2
  let v3203 : Index := Scalar.indexCast arg10
  let c0_2037 : Index := 0#32
  let c0_2038 : Index := 0#32
  ![0, v3203.toNat, 0, 0]
def k0_off3 (k0_t2 : Fin k0_t2_loop.trips) : Fin 4 → Nat :=
  let c1_2039 : Index := 1#32
  let c0_i32_2009 : BitVec 32 := 0#32
  let c1_i32_2010 : BitVec 32 := 1#32
  let arg10 : BitVec 32 := Scf.iv c0_i32_2009 c1_i32_2010 k0_t2
  let v3207 : Index := Scalar.indexCast arg10
  let c0_2040 : Index := 0#32
  let c0_2041 : Index := 0#32
  ![1, v3207.toNat, 0, 0]
def k0_off4 (k0_t2 : Fin k0_t2_loop.trips) : Fin 4 → Nat :=
  let c2_2042 : Index := 2#32
  let c0_i32_2009 : BitVec 32 := 0#32
  let c1_i32_2010 : BitVec 32 := 1#32
  let arg10 : BitVec 32 := Scf.iv c0_i32_2009 c1_i32_2010 k0_t2
  let v3211 : Index := Scalar.indexCast arg10
  let c0_2043 : Index := 0#32
  let c0_2044 : Index := 0#32
  ![2, v3211.toNat, 0, 0]
@[reducible] def k0_t3_loop : Scf.Loop 32 :=
  let c0_i32_2009 : BitVec 32 := 0#32
  let c32_i32 : BitVec 32 := 32#32
  let v3156 : BitVec 32 := Scalar.addi c0_i32_2009 c32_i32
  let c1_i32_2010 : BitVec 32 := 1#32
  ⟨c0_i32_2009, v3156, c1_i32_2010⟩
def k0_off5 (k0_t3 : Fin k0_t3_loop.trips) : Fin 3 → Nat :=
  let c0_i32_2009 : BitVec 32 := 0#32
  let c1_i32_2010 : BitVec 32 := 1#32
  let arg10 : BitVec 32 := Scf.iv c0_i32_2009 c1_i32_2010 k0_t3
  let v3192 : Index := Scalar.indexCast arg10
  let c0_2033 : Index := 0#32
  let c0_2034 : Index := 0#32
  ![v3192.toNat, 0, 0]
def k0_off6 (k0_t3 : Fin k0_t3_loop.trips) : Fin 4 → Nat :=
  let c0_2036 : Index := 0#32
  let c0_i32_2009 : BitVec 32 := 0#32
  let c1_i32_2010 : BitVec 32 := 1#32
  let arg10 : BitVec 32 := Scf.iv c0_i32_2009 c1_i32_2010 k0_t3
  let v3203 : Index := Scalar.indexCast arg10
  let c0_2037 : Index := 0#32
  let c0_2038 : Index := 0#32
  ![0, v3203.toNat, 0, 0]
def k0_off7 (k0_t3 : Fin k0_t3_loop.trips) : Fin 4 → Nat :=
  let c1_2039 : Index := 1#32
  let c0_i32_2009 : BitVec 32 := 0#32
  let c1_i32_2010 : BitVec 32 := 1#32
  let arg10 : BitVec 32 := Scf.iv c0_i32_2009 c1_i32_2010 k0_t3
  let v3207 : Index := Scalar.indexCast arg10
  let c0_2040 : Index := 0#32
  let c0_2041 : Index := 0#32
  ![1, v3207.toNat, 0, 0]
def k0_off8 (k0_t3 : Fin k0_t3_loop.trips) : Fin 4 → Nat :=
  let c2_2042 : Index := 2#32
  let c0_i32_2009 : BitVec 32 := 0#32
  let c1_i32_2010 : BitVec 32 := 1#32
  let arg10 : BitVec 32 := Scf.iv c0_i32_2009 c1_i32_2010 k0_t3
  let v3211 : Index := Scalar.indexCast arg10
  let c0_2043 : Index := 0#32
  let c0_2044 : Index := 0#32
  ![2, v3211.toNat, 0, 0]
abbrev stage0_0 : Fin 1 → Memref sig .tc .vmem S3x32x8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8x16384x3 : Shape := ⟨3, ![8, 16384, 3]⟩
abbrev S8 : Shape := ⟨1, ![8]⟩
abbrev S_ : Shape := ⟨0, ![]⟩
abbrev S8x16384 : Shape := ⟨2, ![8, 16384]⟩
abbrev S512x8 : Shape := ⟨2, ![512, 8]⟩
abbrev S8x1 : Shape := ⟨2, ![8, 1]⟩
abbrev S8x2 : Shape := ⟨2, ![8, 2]⟩
abbrev S8x3 : Shape := ⟨2, ![8, 3]⟩
abbrev S8x1x3 : Shape := ⟨3, ![8, 1, 3]⟩
abbrev S1x8 : Shape := ⟨2, ![1, 8]⟩
abbrev S8x512 : Shape := ⟨2, ![8, 512]⟩

abbrev nBuf : Space → Nat
  | .hbm => 52
  | .vmem => 0
  | .smem => 0
  | _ => 0

abbrev bufTy : (tb : Table) → Fin (tcTables nBuf tb) → BufTy
  | .hbm, ⟨0, _⟩ => ⟨S8x16384x3, .f32⟩
  | .hbm, ⟨1, _⟩ => ⟨S8, .i32⟩
  | .hbm, ⟨2, _⟩ => ⟨S_, .f32⟩
  | .hbm, ⟨3, _⟩ => ⟨S8x16384, .f32⟩
  | .hbm, ⟨4, _⟩ => ⟨S_, .i32⟩
  | .hbm, ⟨5, _⟩ => ⟨S512x8, .i32⟩
  | .hbm, ⟨6, _⟩ => ⟨S_, .i32⟩
  | .hbm, ⟨7, _⟩ => ⟨S8x16384x3, .f32⟩
  | .hbm, ⟨8, _⟩ => ⟨S_, .i32⟩
  | .hbm, ⟨9, _⟩ => ⟨S8x16384, .f32⟩
  | .hbm, ⟨10, _⟩ => ⟨S8, .i32⟩
  | .hbm, ⟨11, _⟩ => ⟨S512x8, .i32⟩
  | .hbm, ⟨12, _⟩ => ⟨S_, .i32⟩
  | .hbm, ⟨13, _⟩ => ⟨S_, .i1⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S8x1, .i32⟩
  | .hbm, ⟨30, _⟩ => ⟨S8x1, .i32⟩
  | .hbm, ⟨31, _⟩ => ⟨S8x2, .i32⟩
  | .hbm, ⟨32, _⟩ => ⟨S8x3, .f32⟩
  | .hbm, ⟨33, _⟩ => ⟨S8x1x3, .f32⟩
  | .hbm, ⟨34, _⟩ => ⟨S8x16384x3, .f32⟩
  | .hbm, ⟨35, _⟩ => ⟨S8x16384x3, .f32⟩
  | .hbm, ⟨36, _⟩ => ⟨S8x16384x3, .f32⟩
  | .hbm, ⟨37, _⟩ => ⟨S_, .f32⟩
  | .hbm, ⟨38, _⟩ => ⟨S8x16384, .f32⟩
  | .hbm, ⟨39, _⟩ => ⟨S8x16384, .f32⟩
  | .hbm, ⟨40, _⟩ => ⟨S8x16384, .f32⟩
  | .hbm, ⟨41, _⟩ => ⟨S8x16384, .i32⟩
  | .hbm, ⟨42, _⟩ => ⟨S_, .f32⟩
  | .hbm, ⟨43, _⟩ => ⟨S_, .i32⟩
  | .hbm, ⟨44, _⟩ => ⟨S8, .f32⟩
  | .hbm, ⟨45, _⟩ => ⟨S8, .i32⟩
  | .hbm, ⟨46, _⟩ => ⟨S1x8, .i32⟩
  | .hbm, ⟨47, _⟩ => ⟨S_, .i32⟩
  | .hbm, ⟨48, _⟩ => ⟨S512x8, .i32⟩
  | .hbm, ⟨49, _⟩ => ⟨S_, .i32⟩
  | .hbm, ⟨50, _⟩ => ⟨S_, .i32⟩
  | .hbm, ⟨51, _⟩ => ⟨S8x512, .i32⟩
  | _, _ => ⟨S8x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_while0c_c_5 : Ref sig .tc := ⟨.hbm, 12, rfl⟩
abbrev main_while0c_v4 : Ref sig .tc := ⟨.hbm, 13, rfl⟩
abbrev main_while0b_v4 : Ref sig .tc := ⟨.hbm, 14, rfl⟩
abbrev main_while0b_c_5 : Ref sig .tc := ⟨.hbm, 15, rfl⟩
abbrev main_while0b_v5 : Ref sig .tc := ⟨.hbm, 16, rfl⟩
abbrev main_while0b_v6 : Ref sig .tc := ⟨.hbm, 17, rfl⟩
abbrev main_while0b_c_6 : Ref sig .tc := ⟨.hbm, 18, rfl⟩
abbrev main_while0b_v7 : Ref sig .tc := ⟨.hbm, 19, rfl⟩
abbrev main_while0b_v8 : Ref sig .tc := ⟨.hbm, 20, rfl⟩
abbrev main_while0b_v9 : Ref sig .tc := ⟨.hbm, 21, rfl⟩
abbrev main_while0b_c_7 : Ref sig .tc := ⟨.hbm, 22, rfl⟩
abbrev main_while0b_v10 : Ref sig .tc := ⟨.hbm, 23, rfl⟩
abbrev main_while0b_v11 : Ref sig .tc := ⟨.hbm, 24, rfl⟩
abbrev main_while0b_c_8 : Ref sig .tc := ⟨.hbm, 25, rfl⟩
abbrev main_while0b_v12 : Ref sig .tc := ⟨.hbm, 26, rfl⟩
abbrev main_while0b_v13 : Ref sig .tc := ⟨.hbm, 27, rfl⟩
abbrev main_while0b_v14 : Ref sig .tc := ⟨.hbm, 28, rfl⟩
abbrev main_while0b_v15 : Ref sig .tc := ⟨.hbm, 29, rfl⟩
abbrev main_while0b_v16 : Ref sig .tc := ⟨.hbm, 30, rfl⟩
abbrev main_while0b_v17 : Ref sig .tc := ⟨.hbm, 31, rfl⟩
abbrev main_while0b_v18 : Ref sig .tc := ⟨.hbm, 32, rfl⟩
abbrev main_while0b_v19 : Ref sig .tc := ⟨.hbm, 33, rfl⟩
abbrev main_while0b_v20 : Ref sig .tc := ⟨.hbm, 34, rfl⟩
abbrev main_while0b_v21 : Ref sig .tc := ⟨.hbm, 35, rfl⟩
abbrev main_while0b_v22 : Ref sig .tc := ⟨.hbm, 36, rfl⟩
abbrev main_while0b_cst_9 : Ref sig .tc := ⟨.hbm, 37, rfl⟩
abbrev main_while0b_v23 : Ref sig .tc := ⟨.hbm, 38, rfl⟩
abbrev main_while0b_v24 : Ref sig .tc := ⟨.hbm, 39, rfl⟩
abbrev main_while0b_v25 : Ref sig .tc := ⟨.hbm, 40, rfl⟩
abbrev main_while0b_call0_v0 : Ref sig .tc := ⟨.hbm, 41, rfl⟩
abbrev main_while0b_call0_cst : Ref sig .tc := ⟨.hbm, 42, rfl⟩
abbrev main_while0b_call0_c : Ref sig .tc := ⟨.hbm, 43, rfl⟩
abbrev main_while0b_call0_v1_0 : Ref sig .tc := ⟨.hbm, 44, rfl⟩
abbrev main_while0b_v26 : Ref sig .tc := ⟨.hbm, 45, rfl⟩
abbrev main_while0b_call1_v0 : Ref sig .tc := ⟨.hbm, 46, rfl⟩
abbrev main_while0b_call1_c : Ref sig .tc := ⟨.hbm, 47, rfl⟩
abbrev main_while0b_v27 : Ref sig .tc := ⟨.hbm, 48, rfl⟩
abbrev main_while0b_c_10 : Ref sig .tc := ⟨.hbm, 49, rfl⟩
abbrev main_while0b_v28 : Ref sig .tc := ⟨.hbm, 50, rfl⟩
abbrev main_v3 : Ref sig .tc := ⟨.hbm, 51, rfl⟩

abbrev nD : Nat := 1
abbrev τ : Topo := Topo.v7x

variable {F : FTy → Type} [FloatOps F]

abbrev main_while0_count : Scf.Loop 32 := ⟨0#32, 512#32, 1#32⟩
-- ==== Proof.Shape.lean ====
/-
The kernel's body, written with its repetition folded: one definition for a 512-lane chunk of a
selection step, one for the end of a step, one for its exact fallback, one for a step. The printed
body writes the 32 chunks of the two steps of a trip out one by one.
-/
module

public import proofs.«01_k».proof.Proof.Gen.KernelIdeal.Skeleton

@[expose] public section

noncomputable section

namespace Cert.KernelIdeal.Shape

open Idealize.ShloMosaic Idealize.SL.Sem
open Cert.KernelIdeal Cert.KernelIdeal.Gen

variable {F : FTy → Type} [FloatOps F]

/-- A program of the kernel's body. -/
abbrev K (F : FTy → Type) [FloatOps F] (α : Type) : Type 1 := Prog (TpuEff nD τ sig (Elt F) Λ₀ .tc) α

/-- The float words of the chunk numbers 0 … 31. -/
def cbits : ℕ → BitVec 32
  | 0 => 0x00000000#32 | 1 => 0x3F800000#32 | 2 => 0x40000000#32 | 3 => 0x40400000#32
  | 4 => 0x40800000#32 | 5 => 0x40A00000#32 | 6 => 0x40C00000#32 | 7 => 0x40E00000#32
  | 8 => 0x41000000#32 | 9 => 0x41100000#32 | 10 => 0x41200000#32 | 11 => 0x41300000#32
  | 12 => 0x41400000#32 | 13 => 0x41500000#32 | 14 => 0x41600000#32 | 15 => 0x41700000#32
  | 16 => 0x41800000#32 | 17 => 0x41880000#32 | 18 => 0x41900000#32 | 19 => 0x41980000#32
  | 20 => 0x41A00000#32 | 21 => 0x41A80000#32 | 22 => 0x41B00000#32 | 23 => 0x41B80000#32
  | 24 => 0x41C00000#32 | 25 => 0x41C80000#32 | 26 => 0x41D00000#32 | 27 => 0x41D80000#32
  | 28 => 0x41E00000#32 | 29 => 0x41E80000#32 | 30 => 0x41F00000#32 | _ => 0x41F80000#32

/-- Chunk `c` of coordinate `d` lies inside the points' array. -/
theorem inbX (d c : ℕ) (hd : d < 3) (hc : c < 32) :
    ∀ a, (![d, c, 0, 0] : Fin 4 → Nat) a + S1x1x8x512.size a ≤ S3x32x8x512.size a := by
  intro a; fin_cases a <;> simp <;> omega

/-- Chunk `c` lies inside the running minima. -/
theorem inbM (c : ℕ) (hc : c < 32) :
    ∀ a, (![c, 0, 0] : Fin 3 → Nat) a + S1x8x512.size a ≤ S32x8x512.size a := by
  intro a; fin_cases a <;> simp <;> omega

/-- Slot `j` lies inside the four small results. -/
theorem inbC (j : ℕ) (hj : j < 4) :
    ∀ a, (![j, 0, 0] : Fin 3 → Nat) a + S1x8x1.size a ≤ S4x8x1.size a := by
  intro a; fin_cases a <;> simp <;> omega

/-- Reading chunk `c` of coordinate `d`. -/
def loadX (arg0 : Memref sig .tc .vmem S3x32x8x512 .f32) (d c : ℕ) (hd : d < 3) (hc : c < 32) : K F (Vec F S1x1x8x512 .f32) :=
  Prog.lift (.load arg0 (Rect.unit (s := S3x32x8x512) ![d, c, 0, 0] S1x1x8x512.size (inbX d c hd hc)).toLoadRect (View.loadsAt_vmem h_S1x1x8x512))

/-- Reading chunk `c` of the running minima. -/
def loadM (arg3 : Memref sig .tc .vmem S32x8x512 .f32) (c : ℕ) (hc : c < 32) : K F (Vec F S1x8x512 .f32) :=
  Prog.lift (.load arg3 (Rect.unit (s := S32x8x512) ![c, 0, 0] S1x8x512.size (inbM c hc)).toLoadRect (View.loadsAt_vmem h_S1x8x512))

/-- Writing chunk `c` of the running minima. -/
def storeM (arg3 : Memref sig .tc .vmem S32x8x512 .f32) (c : ℕ) (hc : c < 32) (v : FVec F S8x512 .f32) : K F PUnit := do
  let _ ← loadM arg3 c hc
  Prog.lift (.store arg3 (Rect.unit (s := S32x8x512) ![c, 0, 0] S1x8x512.size (inbM c hc)) (shapeCast S1x8x512 v shapeCasts_S8x512_S1x8x512) Finset.univ (View.stores_vmem_bits_univ h_S1x8x512 rfl) (.inl rfl))

/-- Reading slot `j` of the small results. -/
def loadC (arg4 : Memref sig .tc .vmem S4x8x1 .f32) (j : ℕ) (hj : j < 4) : K F (Vec F S1x8x1 .f32) :=
  Prog.lift (.load arg4 (Rect.unit (s := S4x8x1) ![j, 0, 0] S1x8x1.size (inbC j hj)).toLoadRect (View.loadsAt_vmem h_S1x8x1))

/-- Writing slot `j` of the small results. -/
def storeC (arg4 : Memref sig .tc .vmem S4x8x1 .f32) (j : ℕ) (hj : j < 4) (v : FVec F S8x1 .f32) : K F PUnit := do
  let _ ← loadC arg4 j hj
  Prog.lift (.store arg4 (Rect.unit (s := S4x8x1) ![j, 0, 0] S1x8x1.size (inbC j hj)) (shapeCast S1x8x1 v shapeCasts_S8x1_S1x8x1) Finset.univ (View.stores_vmem_bits_univ h_S1x8x1 rfl) (.inl rfl))

/-- Reading the result. -/
def loadO (arg2 : Memref sig .tc .vmem S8x512 .i32) : K F (Vec F S8x512 .i32) :=
  Prog.lift (.load arg2 (Rect.unit (s := S8x512) ![0, 0] S8x512.size inb_S8x512_S8x512_0_0).toLoadRect (View.loadsAt_vmem h_S8x512))

/-- Writing the result. -/
def storeO (arg2 : Memref sig .tc .vmem S8x512 .i32) (v : IVec S8x512 32) : K F PUnit := do
  let _ ← loadO (F := F) arg2
  Prog.lift (.store arg2 (Rect.unit (s := S8x512) ![0, 0] S8x512.size inb_S8x512_S8x512_0_0) v Finset.univ (View.stores_vmem_bits_univ h_S8x512 rfl) (.inl rfl))

/-- A broadcast literal. -/
abbrev lit (w : BitVec 32) : FVec F S8x512 .f32 := broadcast S8x512 (Scalar.ofBits .f32 w : F .f32)

/-- The per-lane running values of a step: largest minimum, second largest, chunk number, coordinates. -/
structure Acc (F : FTy → Type) [FloatOps F] where
  m : FVec F S8x512 .f32
  s : FVec F S8x512 .f32
  i : FVec F S8x512 .f32
  x : FVec F S8x512 .f32
  y : FVec F S8x512 .f32
  z : FVec F S8x512 .f32

/-- The centroid's coordinates. -/
structure Cen (F : FTy → Type) [FloatOps F] where
  x : FVec F S8x1 .f32
  y : FVec F S8x1 .f32
  z : FVec F S8x1 .f32

/-- Before the first chunk: −∞, −∞, zeros. -/
def acc0 : Acc F := ⟨lit 0xFF800000#32, lit 0xFF800000#32, lit 0x00000000#32, lit 0x00000000#32, lit 0x00000000#32, lit 0x00000000#32⟩

/-- Squared distances of a chunk from the centroid. -/
def sqd (cen : Cen F) (x y z : FVec F S8x512 .f32) : FVec F S8x512 .f32 :=
  let dx := subf x (broadcastTo S8x512 cen.x broadcasts_S8x1_S8x512)
  let dy := subf y (broadcastTo S8x512 cen.y broadcasts_S8x1_S8x512)
  let dz := subf z (broadcastTo S8x512 cen.z broadcasts_S8x1_S8x512)
  addf (addf (mulf dx dx) (mulf dy dy)) (mulf dz dz)

/-- One chunk's update of the running values: `md` the chunk's new minima. -/
def accNext (c : ℕ) (a : Acc F) (md x y z : FVec F S8x512 .f32) : Acc F :=
  let better := cmpf .ogt md a.m
  ⟨select better md a.m, maximumf a.s (minimumf md a.m), select better (lit (cbits c)) a.i,
   select better x a.x, select better y a.y, select better z a.z⟩

/-- A chunk of a step. -/
def chunk (arg0 : Memref sig .tc .vmem S3x32x8x512 .f32) (arg3 : Memref sig .tc .vmem S32x8x512 .f32)
    (cen : Cen F) (c : ℕ) (hc : c < 32) (a : Acc F) : K F (Acc F) := do
  let x ← loadX arg0 0 c (by decide) hc
  let y ← loadX arg0 1 c (by decide) hc
  let z ← loadX arg0 2 c (by decide) hc
  let d := sqd cen (shapeCast S8x512 x shapeCasts_S1x1x8x512_S8x512) (shapeCast S8x512 y shapeCasts_S1x1x8x512_S8x512) (shapeCast S8x512 z shapeCasts_S1x1x8x512_S8x512)
  let m ← loadM arg3 c hc
  let md := minimumf (shapeCast S8x512 m shapeCasts_S1x8x512_S8x512) d
  storeM arg3 c hc md
  pure (accNext c a md (shapeCast S8x512 x shapeCasts_S1x1x8x512_S8x512) (shapeCast S8x512 y shapeCasts_S1x1x8x512_S8x512) (shapeCast S8x512 z shapeCasts_S1x1x8x512_S8x512))

/-- The last `n` chunks of a step, from chunk `c` on. -/
def chunks (arg0 : Memref sig .tc .vmem S3x32x8x512 .f32) (arg3 : Memref sig .tc .vmem S32x8x512 .f32)
    (cen : Cen F) : (n c : ℕ) → (h : c + n = 32) → Acc F → K F (Acc F)
  | 0, _, _, a => pure a
  | n + 1, c, h, a => do
    let a' ← chunk arg0 arg3 cen c (by omega) a
    chunks arg0 arg3 cen n (c + 1) (by omega) a'

/-- A row's maximum. -/
def rowMax (v : FVec F S8x512 .f32) : FVec F S8x1 .f32 :=
  shapeCast S8x1 (multiReduction .maximumf [1] S8 v 0xFF800000#32 reduces_S8x512_S8 (.inl rfl) rfl) shapeCasts_S8_S8x1

/-- A row's minimum. -/
def rowMin (v : FVec F S8x512 .f32) : FVec F S8x1 .f32 :=
  shapeCast S8x1 (multiReduction .minimumf [1] S8 v 0x7F800000#32 reduces_S8x512_S8 (.inl rfl) rfl) shapeCasts_S8_S8x1

/-- A row's sum. -/
def rowSum (v : FVec F S8x512 .f32) : FVec F S8x1 .f32 :=
  shapeCast S8x1 (multiReduction .add [1] S8 v 0x00000000#32 reduces_S8x512_S8 (.inl rfl) rfl) shapeCasts_S8_S8x1

/-- A row's sum over the lanes a mask selects. -/
def rowPick (b : IVec S8x512 1) (v : FVec F S8x512 .f32) : FVec F S8x1 .f32 :=
  rowSum (select b v (lit 0x00000000#32))

/-- The flat positions of the running values. -/
def flat (v1 : FVec F S8x512 .f32) (a : Acc F) : FVec F S8x512 .f32 :=
  addf (mulf a.i (lit 0x44000000#32)) v1

/-- The lanes holding the row's maximum. -/
def atMax (a : Acc F) : IVec S8x512 1 :=
  cmpf .oeq a.m (broadcastTo S8x512 (rowMax a.m) broadcasts_S8x1_S8x512)

/-- How many lanes come near the row's maximum, a lane with two near values counting three. -/
def cnt (a : Acc F) : FVec F S8x1 .f32 :=
  rowSum (addf
    (select (cmpf .oge a.m (broadcastTo S8x512 (mulf (rowMax a.m) (broadcast S8x1 (Scalar.ofBits .f32 0x3F7FFFF6#32 : F .f32))) broadcasts_S8x1_S8x512)) (lit 0x3F800000#32) (lit 0x00000000#32))
    (select (cmpf .oge a.s (mulf a.m (lit 0x3F7FFFF6#32))) (lit 0x40000000#32) (lit 0x00000000#32)))

/-- Whether some row's count asks for the exact search. -/
def slow (n : FVec F S8x1 .f32) : BitVec 1 :=
  Scalar.cmpi .ne ((Scalar.extui (Scalar.cmpf .ogt
    (extractAt ![0, 0, 0] (shapeCast S1x1x1 (multiReduction .maximumf [1, 2] S1 (shapeCast S1x8x1 n shapeCasts_S8x1_S1x8x1) 0xFF800000#32 reduces_S1x8x1_S1 (.inl rfl) rfl) shapeCasts_S1_S1x1x1) inpos_S1x1x1_p0_0_0)
    (Scalar.ofBits .f32 0x3FC00000#32 : F .f32))) : BitVec 32) 0#32

/-- The carried values of the exact search: largest root, its flat position, coordinates. -/
abbrev Car (F : FTy → Type) [FloatOps F] : Type :=
  FVec F S8x512 .f32 × FVec F S8x512 .f32 × FVec F S8x512 .f32 × FVec F S8x512 .f32 × FVec F S8x512 .f32

/-- Before the exact search. -/
def car0 : Car F := (lit 0xFF800000#32, lit 0x00000000#32, lit 0x00000000#32, lit 0x00000000#32, lit 0x00000000#32)

/-- What one trip of the exact search yields from the blocks it reads. -/
def carNext (v1 : FVec F S8x512 .f32) (k : Fin k0_t2_loop.trips) (q : Car F) (m x y z : FVec F S8x512 .f32) : Car F :=
  let r := sqrt m
  let b := cmpf .ogt r q.1
  (select b r q.1,
   select b (addf (broadcast S8x512 (Scalar.mulf (Scalar.sitofp .f32 (Scf.iv 0#32 1#32 k) : F .f32) (Scalar.ofBits .f32 0x44000000#32 : F .f32))) v1) q.2.1,
   select b x q.2.2.1, select b y q.2.2.2.1, select b z q.2.2.2.2)

/-- One trip of the exact search. -/
def slowTrip (arg0 : Memref sig .tc .vmem S3x32x8x512 .f32) (arg3 : Memref sig .tc .vmem S32x8x512 .f32)
    (v1 : FVec F S8x512 .f32) (k : Fin k0_t2_loop.trips) (q : Car F) : K F (Car F) := do
  let m : Vec F S1x8x512 .f32 ← Prog.lift (.load arg3 (Rect.unit (s := S32x8x512) (k0_off1 k) S1x8x512.size (k0_off1_inb k)).toLoadRect (View.loadsAt_vmem h_S1x8x512))
  let x : Vec F S1x1x8x512 .f32 ← Prog.lift (.load arg0 (Rect.unit (s := S3x32x8x512) (k0_off2 k) S1x1x8x512.size (k0_off2_inb k)).toLoadRect (View.loadsAt_vmem h_S1x1x8x512))
  let y : Vec F S1x1x8x512 .f32 ← Prog.lift (.load arg0 (Rect.unit (s := S3x32x8x512) (k0_off3 k) S1x1x8x512.size (k0_off3_inb k)).toLoadRect (View.loadsAt_vmem h_S1x1x8x512))
  let z : Vec F S1x1x8x512 .f32 ← Prog.lift (.load arg0 (Rect.unit (s := S3x32x8x512) (k0_off4 k) S1x1x8x512.size (k0_off4_inb k)).toLoadRect (View.loadsAt_vmem h_S1x1x8x512))
  pure (carNext v1 k q (shapeCast S8x512 m shapeCasts_S1x8x512_S8x512) (shapeCast S8x512 x shapeCasts_S1x1x8x512_S8x512) (shapeCast S8x512 y shapeCasts_S1x1x8x512_S8x512) (shapeCast S8x512 z shapeCasts_S1x1x8x512_S8x512))

/-- The smallest flat position over the lanes holding the row's largest root. -/
def slowFlat (q : Car F) : FVec F S8x1 .f32 :=
  rowMin (select (cmpf .oeq q.1 (broadcastTo S8x512 (rowMax q.1) broadcasts_S8x1_S8x512)) q.2.1 (lit 0x46800000#32))

/-- The lane of that position. -/
def slowSel (q : Car F) : IVec S8x512 1 :=
  cmpf .oeq q.2.1 (broadcastTo S8x512 (slowFlat q) broadcasts_S8x1_S8x512)

/-- The exact search: it overwrites the four small results. -/
def slowPath (arg0 : Memref sig .tc .vmem S3x32x8x512 .f32) (arg3 : Memref sig .tc .vmem S32x8x512 .f32)
    (arg4 : Memref sig .tc .vmem S4x8x1 .f32) (v1 : FVec F S8x512 .f32) : K F PUnit := do
  let q ← Scf.Loop.for k0_t2_loop k0_t2_ok (car0 (F := F)) (slowTrip arg0 arg3 v1)
  storeC arg4 0 (by decide) (rowPick (slowSel q) q.2.2.1)
  storeC arg4 1 (by decide) (rowPick (slowSel q) q.2.2.2.1)
  storeC arg4 2 (by decide) (rowPick (slowSel q) q.2.2.2.2)
  storeC arg4 3 (by decide) (slowFlat q)
  pure ⟨⟩

/-- The step's state: the current index and its coordinates. -/
abbrev St (F : FTy → Type) [FloatOps F] : Type := IVec S8x1 32 × FVec F S8x1 .f32 × FVec F S8x1 .f32 × FVec F S8x1 .f32

/-- Writing slot 0 of the small results, the slot already read. -/
def storeC0 (arg4 : Memref sig .tc .vmem S4x8x1 .f32) (v : FVec F S1x8x1 .f32) : K F PUnit :=
  Prog.lift (.store arg4 (Rect.unit (s := S4x8x1) ![0, 0, 0] S1x8x1.size (inbC 0 (by decide))) v Finset.univ (View.stores_vmem_bits_univ h_S1x8x1 rfl) (.inl rfl))

/-- The end of a step from the lane mask `b`, the lanes' coordinates and flat positions, and the
    counts `n`: the four small results, the exact search where asked for, the index read back. -/
def tail (arg0 : Memref sig .tc .vmem S3x32x8x512 .f32) (arg3 : Memref sig .tc .vmem S32x8x512 .f32)
    (arg4 : Memref sig .tc .vmem S4x8x1 .f32) (v1 : FVec F S8x512 .f32) (x : FVec F S1x8x1 .f32) (b : IVec S8x512 1)
    (y z fl : FVec F S8x512 .f32) (n : FVec F S8x1 .f32) : K F (Vec F S1x8x1 .f32) := do
  storeC0 arg4 x
  storeC arg4 1 (by decide) (rowPick b y)
  storeC arg4 2 (by decide) (rowPick b z)
  storeC arg4 3 (by decide) (rowPick b fl)
  if slow n = 1#1 then slowPath arg0 arg3 arg4 v1 else pure ⟨⟩
  loadC arg4 3 (by decide)

/-- The end of a step from the running values, and the next state read back. -/
def finish (arg0 : Memref sig .tc .vmem S3x32x8x512 .f32) (arg3 : Memref sig .tc .vmem S32x8x512 .f32)
    (arg4 : Memref sig .tc .vmem S4x8x1 .f32) (v1 : FVec F S8x512 .f32) (a : Acc F) : K F (St F) := do
  let _ ← loadC (F := F) arg4 0 (by decide)
  let i ← tail arg0 arg3 arg4 v1 (shapeCast S1x8x1 (rowPick (atMax a) a.x) shapeCasts_S8x1_S1x8x1) (atMax a) a.y a.z (flat v1 a) (cnt a)
  let x ← loadC arg4 0 (by decide)
  let y ← loadC arg4 1 (by decide)
  let z ← loadC arg4 2 (by decide)
  pure (fptosi 32 (shapeCast S8x1 i shapeCasts_S1x8x1_S8x1), shapeCast S8x1 x shapeCasts_S1x8x1_S8x1,
    shapeCast S8x1 y shapeCasts_S1x8x1_S8x1, shapeCast S8x1 z shapeCasts_S1x8x1_S8x1)

/-- Column `t` of the result set to the current index. -/
def record (arg2 : Memref sig .tc .vmem S8x512 .i32) (v3 : IVec S8x512 32) (t : BitVec 32) (i : IVec S8x1 32) : K F PUnit := do
  let o ← loadO (F := F) arg2
  storeO arg2 (select (cmpi .eq v3 (broadcast S8x512 t)) (broadcastTo S8x512 (shapeCast S8x1 i shapeCasts_S8x1_S8x1) broadcasts_S8x1_S8x512) (shapeCast S8x512 o shapeCasts_S8x512_S8x512))

/-- One selection step. -/
def step (arg0 : Memref sig .tc .vmem S3x32x8x512 .f32) (arg2 : Memref sig .tc .vmem S8x512 .i32)
    (arg3 : Memref sig .tc .vmem S32x8x512 .f32) (arg4 : Memref sig .tc .vmem S4x8x1 .f32)
    (v1 : FVec F S8x512 .f32) (v3 : IVec S8x512 32) (t : BitVec 32) (s : St F) : K F (St F) := do
  record arg2 v3 t s.1
  let a ← chunks arg0 arg3 ⟨s.2.1, s.2.2.1, s.2.2.2⟩ 32 0 rfl acc0
  finish arg0 arg3 arg4 v1 a

/-- A trip of the main loop: two steps. -/
def trip (arg0 : Memref sig .tc .vmem S3x32x8x512 .f32) (arg2 : Memref sig .tc .vmem S8x512 .i32)
    (arg3 : Memref sig .tc .vmem S32x8x512 .f32) (arg4 : Memref sig .tc .vmem S4x8x1 .f32)
    (v1 : FVec F S8x512 .f32) (v3 : IVec S8x512 32) (k : Fin k0_t1_loop.trips) (s : St F) : K F (St F) := do
  let s' ← step arg0 arg2 arg3 arg4 v1 v3 (Scalar.muli 2#32 (Scf.iv 0#32 1#32 k)) s
  step arg0 arg2 arg3 arg4 v1 v3 (Scalar.addi (Scalar.muli 2#32 (Scf.iv 0#32 1#32 k)) 1#32) s'

/-- The lane numbers, as integers. -/
def laneI : IVec S8x512 32 := iota .tc S8x512 32 [1] iota_S8x512_d1_w32

/-- The lane numbers, as floats. -/
def laneF : FVec F S8x512 .f32 := sitofp .f32 laneI

/-- Filling the last `n` chunks of the running minima with +∞, from chunk `c` on. -/
def fills (arg3 : Memref sig .tc .vmem S32x8x512 .f32) : (n c : ℕ) → (h : c + n = 32) → K F PUnit
  | 0, _, _ => pure ⟨⟩
  | n + 1, c, h => do
    storeM arg3 c (by omega) (lit 0x7F800000#32)
    fills arg3 n (c + 1) (by omega)

/-- The lanes of chunk `c` that a row's first index names. -/
def hot (c : ℕ) (i : IVec S8x1 32) : IVec S8x512 1 :=
  cmpi .eq (addi laneI (broadcast S8x512 (BitVec.ofNat 32 (512 * c)))) (broadcastTo S8x512 i broadcasts_S8x1_S8x512)

/-- The first centroid, collected over the last `n` chunks from chunk `c` on. -/
def firsts (arg0 : Memref sig .tc .vmem S3x32x8x512 .f32) (i : IVec S8x1 32) :
    (n c : ℕ) → (h : c + n = 32) → Cen F → K F (Cen F)
  | 0, _, _, a => pure a
  | n + 1, c, h, a => do
    let x ← loadX arg0 0 c (by decide) (by omega)
    let y ← loadX arg0 1 c (by decide) (by omega)
    let z ← loadX arg0 2 c (by decide) (by omega)
    firsts arg0 i n (c + 1) (by omega)
      ⟨addf a.x (rowPick (hot c i) (shapeCast S8x512 x shapeCasts_S1x1x8x512_S8x512)),
       addf a.y (rowPick (hot c i) (shapeCast S8x512 y shapeCasts_S1x1x8x512_S8x512)),
       addf a.z (rowPick (hot c i) (shapeCast S8x512 z shapeCasts_S1x1x8x512_S8x512))⟩

/-- Reading the first indices. -/
def loadI (arg1 : Memref sig .tc .vmem S8x1 .i32) : K F (Vec F S8x1 .i32) :=
  Prog.lift (.load arg1 (Rect.unit (s := S8x1) ![0, 0] S8x1.size inb_S8x1_S8x1_0_0).toLoadRect (View.loadsAt_vmem h_S8x1))

/-- Before the first chunk: zero. -/
def cen0 : Cen F := ⟨broadcast S8x1 (Scalar.ofBits .f32 0x00000000#32 : F .f32), broadcast S8x1 (Scalar.ofBits .f32 0x00000000#32 : F .f32), broadcast S8x1 (Scalar.ofBits .f32 0x00000000#32 : F .f32)⟩

/-- Everything before the main loop: the minima +∞, the result zero, the first index and its coordinates. -/
def prologue (arg0 : Memref sig .tc .vmem S3x32x8x512 .f32) (arg1 : Memref sig .tc .vmem S8x1 .i32)
    (arg2 : Memref sig .tc .vmem S8x512 .i32) (arg3 : Memref sig .tc .vmem S32x8x512 .f32) : K F (St F) := do
  fills arg3 32 0 rfl
  storeO arg2 (broadcast S8x512 0#32)
  let i ← loadI (F := F) arg1
  let cen ← firsts arg0 (shapeCast S8x1 i shapeCasts_S8x1_S8x1) 32 0 rfl cen0
  pure (shapeCast S8x1 i shapeCasts_S8x1_S8x1, cen.x, cen.y, cen.z)

/-- The whole body. -/
def body (arg0 : Memref sig .tc .vmem S3x32x8x512 .f32) (arg1 : Memref sig .tc .vmem S8x1 .i32)
    (arg2 : Memref sig .tc .vmem S8x512 .i32) (arg3 : Memref sig .tc .vmem S32x8x512 .f32)
    (arg4 : Memref sig .tc .vmem S4x8x1 .f32) : K F PUnit := do
  let s ← prologue arg0 arg1 arg2 arg3
  let _ ← Scf.Loop.for k0_t1_loop k0_t1_ok s (trip arg0 arg2 arg3 arg4 laneF laneI)
  pure ⟨⟩

end Cert.KernelIdeal.Shape
-- ==== Proof.ShapeEq.lean ====
/-
The printed body of the main loop is two steps of Shape.lean: the two are compared request by request.
-/
module

public import proofs.«01_k».proof.Proof.Shape
@[expose] public section
namespace Cert.KernelIdeal.Shape
open Idealize.ShloMosaic Idealize.SL.Sem
open Cert.KernelIdeal Cert.KernelIdeal.Gen
variable {F : FTy → Type} [FloatOps F]
set_option maxRecDepth 100000
set_option maxHeartbeats 400000
/-- Two requests followed by equal continuations. -/
theorem op_congr.{v} {E : Type → Type v} {α : Type} {β : Type} {e e' : E β} {k k' : β → Prog E α} (he : e = e') (h : ∀ r, k r = k' r) : Prog.op e k = Prog.op e' k' := by
  subst he; exact congrArg _ (funext h)

/-- Two programs run in sequence, each equal to its counterpart. -/
theorem seq_congr {α β : Type} {a a' : K F α} {k k' : α → K F β} (ha : a = a') (hk : ∀ r, k r = k' r) : a >>= k = a' >>= k' := by
  subst ha; exact congrArg _ (funext hk)

/-- Binds reassociate to the right. -/
theorem bindAssoc {α β γ : Type} (p : K F α) (f : α → K F β) (g : β → K F γ) :
    (p.bind f).bind g = p.bind fun a => (f a).bind g := Prog.bind_assoc p f g

/-- A returned value is handed to what follows. -/
theorem bindRet {α β : Type} (a : α) (k : α → K F β) : (Prog.ret a : K F α).bind k = k a := rfl

/-- The bind of the monad is the programs' own. -/
theorem bindEq {α β : Type} (p : K F α) (k : α → K F β) : p >>= k = p.bind k := rfl

/-- The end of a trip's first step is `tail`, its index converted. -/
theorem part32_eq (arg0 : Memref sig .tc .vmem S3x32x8x512 .f32) (harg0 : arg0.IsWhole) (arg1 : Memref sig .tc .vmem S8x1 .i32) (harg1 : arg1.IsWhole) (arg2 : Memref sig .tc .vmem S8x512 .i32) (harg2 : arg2.IsWhole) (arg3 : Memref sig .tc .vmem S32x8x512 .f32) (harg3 : arg3.IsWhole) (arg4 : Memref sig .tc .vmem S4x8x1 .f32) (harg4 : arg4.IsWhole) (v1 : FVec F S8x512 .f32) (y z fl) (b : IVec S8x512 1) (n : FVec F S8x1 .f32) (x : FVec F S1x8x1 .f32) :
    k0_part32 arg0 harg0 arg1 harg1 arg2 harg2 arg3 harg3 arg4 harg4 v1 y z fl b n x = (tail arg0 arg3 arg4 v1 x b y z fl n).bind fun i => .ret (fptosi 32 (shapeCast S8x1 i shapeCasts_S1x8x1_S8x1)) := by
  unfold k0_part32 tail
  iterate 7
    conv_lhs => whnf
    conv_rhs => whnf
    refine op_congr rfl (fun r => ?_)
  by_cases h : slow n = 1#1
  · change (if slow n = 1#1 then _ else _) = (Bind.bind (if slow n = 1#1 then _ else _) _)
    rw [if_pos h, if_pos h]
    unfold k0_part1 slowPath
    simp only [bind_assoc, pure_bind]

    refine seq_congr (α := Car F) rfl (fun r => ?_)
    rfl
  · change (if slow n = 1#1 then _ else _) = (Bind.bind (if slow n = 1#1 then _ else _) _)
    rw [if_neg h, if_neg h]
    rfl
/-- The end of a trip's second step is `tail`. -/
theorem part62_eq (arg0 : Memref sig .tc .vmem S3x32x8x512 .f32) (harg0 : arg0.IsWhole) (arg1 : Memref sig .tc .vmem S8x1 .i32) (harg1 : arg1.IsWhole) (arg2 : Memref sig .tc .vmem S8x512 .i32) (harg2 : arg2.IsWhole) (arg3 : Memref sig .tc .vmem S32x8x512 .f32) (harg3 : arg3.IsWhole) (arg4 : Memref sig .tc .vmem S4x8x1 .f32) (harg4 : arg4.IsWhole) (v1 : FVec F S8x512 .f32) (y z fl) (b : IVec S8x512 1) (n : FVec F S8x1 .f32) (x : FVec F S8x1 .f32) :
    k0_part62 arg0 harg0 arg1 harg1 arg2 harg2 arg3 harg3 arg4 harg4 v1 y z fl b n x = (loadC arg4 0 (by decide)).bind fun _ => tail arg0 arg3 arg4 v1 (shapeCast S1x8x1 x shapeCasts_S8x1_S1x8x1) b y z fl n := by
  unfold k0_part62 tail
  iterate 8
    conv_lhs => whnf
    conv_rhs => whnf
    refine op_congr rfl (fun r => ?_)
  by_cases h : slow n = 1#1
  · change (if slow n = 1#1 then _ else _) = (if slow n = 1#1 then _ else _)
    rw [if_pos h, if_pos h]
    unfold k0_part2 slowPath
    simp only [bind_assoc, pure_bind]
    refine seq_congr (α := Car F) rfl (fun r => ?_)
    rfl
  · change (if slow n = 1#1 then _ else _) = (if slow n = 1#1 then _ else _)
    rw [if_neg h, if_neg h]
    rfl

attribute [local irreducible] k0_part32 k0_part62 tail

set_option maxHeartbeats 8000000 in
/-- A trip of the printed main loop is `trip`. -/
theorem t1_eq (arg0 : Memref sig .tc .vmem S3x32x8x512 .f32) (harg0 : arg0.IsWhole) (arg1 : Memref sig .tc .vmem S8x1 .i32) (harg1 : arg1.IsWhole) (arg2 : Memref sig .tc .vmem S8x512 .i32) (harg2 : arg2.IsWhole) (arg3 : Memref sig .tc .vmem S32x8x512 .f32) (harg3 : arg3.IsWhole) (arg4 : Memref sig .tc .vmem S4x8x1 .f32) (harg4 : arg4.IsWhole) (v1 : FVec F S8x512 .f32) (v3 : IVec S8x512 32) (k : Fin k0_t1_loop.trips) (s : St F) :
    k0_t1_body arg0 harg0 arg1 harg1 arg2 harg2 arg3 harg3 arg4 harg4 v1 v3 k s = trip arg0 arg2 arg3 arg4 v1 v3 k s := by
  obtain ⟨i, x, y, z⟩ := s
  iterate 60 ((conv_lhs => whnf); (conv_rhs => whnf); (refine op_congr rfl (fun r => ?_)))
  iterate 60 ((conv_lhs => whnf); (conv_rhs => whnf); (refine op_congr rfl (fun r => ?_)))
  iterate 60 ((conv_lhs => whnf); (conv_rhs => whnf); (refine op_congr rfl (fun r => ?_)))
  iterate 16 ((conv_lhs => whnf); (conv_rhs => whnf); (refine op_congr rfl (fun r => ?_)))
  conv_lhs => whnf
  conv_rhs => whnf
  simp -zeta only [bindAssoc, bindRet, bindEq]
  conv_lhs => whnf
  simp -zeta only [bindAssoc, bindRet, part32_eq]
  refine seq_congr ?_ (fun r => ?_)
  · rfl
  iterate 60 ((conv_lhs => whnf); (conv_rhs => whnf); (refine op_congr rfl (fun r => ?_)))
  iterate 60 ((conv_lhs => whnf); (conv_rhs => whnf); (refine op_congr rfl (fun r => ?_)))
  iterate 60 ((conv_lhs => whnf); (conv_rhs => whnf); (refine op_congr rfl (fun r => ?_)))
  iterate 18 ((conv_lhs => whnf); (conv_rhs => whnf); (refine op_congr rfl (fun r => ?_)))
  simp -zeta only [bindAssoc, bindRet, bindEq]
  conv_lhs => whnf
  simp -zeta only [bindAssoc, bindRet, bindEq, part62_eq]
  unfold finish
  simp -zeta only [bindAssoc, bindRet, bindEq]
  refine seq_congr rfl (fun r => ?_)
  refine seq_congr ?_ (fun r => ?_)
  · rfl
  rfl

end Cert.KernelIdeal.Shape
-- ==== Proof.BodyEq.lean ====
/-
The whole printed body is `body` of Shape.lean.
-/
module

public import proofs.«01_k».proof.Proof.ShapeEq
@[expose] public section
namespace Cert.KernelIdeal.Shape
open Idealize.ShloMosaic Idealize.SL.Sem
open Cert.KernelIdeal Cert.KernelIdeal.Gen
variable {F : FTy → Type} [FloatOps F]
set_option maxRecDepth 100000
set_option maxHeartbeats 8000000

/-- The printed body is `body`. -/
theorem body_eq (arg0 : Memref sig .tc .vmem S3x32x8x512 .f32) (harg0 : arg0.IsWhole) (arg1 : Memref sig .tc .vmem S8x1 .i32) (harg1 : arg1.IsWhole) (arg2 : Memref sig .tc .vmem S8x512 .i32) (harg2 : arg2.IsWhole) (arg3 : Memref sig .tc .vmem S32x8x512 .f32) (harg3 : arg3.IsWhole) (arg4 : Memref sig .tc .vmem S4x8x1 .f32) (harg4 : arg4.IsWhole) :
    cc0__fps_body arg0 harg0 arg1 harg1 arg2 harg2 arg3 harg3 arg4 harg4 = body (F := F) arg0 arg1 arg2 arg3 arg4 := by
  iterate 60 ((conv_lhs => whnf); (conv_rhs => whnf); (refine op_congr rfl (fun r => ?_)))
  iterate 60 ((conv_lhs => whnf); (conv_rhs => whnf); (refine op_congr rfl (fun r => ?_)))
  iterate 43 ((conv_lhs => whnf); (conv_rhs => whnf); (refine op_congr rfl (fun r => ?_)))
  conv_lhs => whnf
  conv_rhs => whnf
  refine seq_congr (α := St F) (congrArg₂ (fun s f => Scf.Loop.for k0_t1_loop k0_t1_ok s f) ?_ (funext fun k => funext fun s => ?_)) (fun r => ?_)
  · rfl
  · exact t1_eq arg0 harg0 arg1 harg1 arg2 harg2 arg3 harg3 arg4 harg4 _ _ k s
  · rfl

end Cert.KernelIdeal.Shape
-- ==== Proof.Contents.lean ====
/-
The buffers' contents as the mathematics names them (a table of chunks for the running minima, a table of
columns for the four small results), and what the kernel's reads and writes are on them.
-/
module

public import proofs.«01_k».proof.Proof.Shape
public import proofs.«01_k».proof.Proof.Gen.KernelIdeal.Frame
public import Idealize.ShloMosaic.Lib.WholeRead
public import Idealize.ShloMosaic.Lib.WritesUnit
public import Idealize.ShloMosaic.Lib.ValueLayout

@[expose] public section

noncomputable section

namespace Cert.KernelIdeal.Shape

open Idealize.ShloMosaic Idealize.ShloMosaic.TcCoe Idealize.ShloMosaic.ValueIdx
open Cert.KernelIdeal Cert.KernelIdeal.Gen

variable {F : FTy → Type} [FloatOps F]

/-- The running minima: a chunk's 8 × 512 values for each chunk number. -/
abbrev Mins (F : FTy → Type) : Type := ℕ → FVec F S8x512 .f32

/-- The four small results: a column of 8 values for each slot. -/
abbrev Cols (F : FTy → Type) : Type := ℕ → FVec F S8x1 .f32

/-- The running minima as one array. -/
def packM (M : Mins F) : S32x8x512.Idx → F .f32 := fun i => M (i 0).val (ix2 (i 1) (i 2))

/-- The small results as one array. -/
def packC (C : Cols F) : S4x8x1.Idx → F .f32 := fun i => C (i 0).val (ix2 (i 1) (i 2))

/-- Chunk `c` of coordinate `d` of the points. -/
def xs (X : S3x32x8x512.Idx → F .f32) (d : Fin 3) (c : ℕ) (hc : c < 32) : FVec F S8x512 .f32 :=
  fun i => X (ix4 d ⟨c, hc⟩ (i 0) (i 1))

/-- An array packed from its own chunks is itself. -/
theorem packM_surj (Y : S32x8x512.Idx → F .f32) : ∃ M : Mins F, packM M = Y :=
  ⟨fun c j => if h : c < 32 then Y (ix3 ⟨c, h⟩ (j 0) (j 1)) else Y (ix3 ⟨0, by decide⟩ (j 0) (j 1)), by
    funext i
    unfold packM
    refine (dif_pos (show (i 0).val < 32 from (i 0).isLt)).trans ?_
    congr 1; funext a; fin_cases a <;> rfl⟩

/-- Four columns packed from themselves. -/
theorem packC_surj (Y : S4x8x1.Idx → F .f32) : ∃ C : Cols F, packC C = Y :=
  ⟨fun c j => if h : c < 4 then Y (ix3 ⟨c, h⟩ (j 0) (j 1)) else Y (ix3 ⟨0, by decide⟩ (j 0) (j 1)), by
    funext i
    unfold packC
    refine (dif_pos (show (i 0).val < 4 from (i 0).isLt)).trans ?_
    congr 1; funext a; fin_cases a <;> rfl⟩

section
variable {arg0 : Memref sig .tc .vmem S3x32x8x512 .f32} (harg0 : arg0.IsWhole)
  {arg3 : Memref sig .tc .vmem S32x8x512 .f32} (harg3 : arg3.IsWhole)
  {arg4 : Memref sig .tc .vmem S4x8x1 .f32} (harg4 : arg4.IsWhole)

/-- Reading a chunk of the points. -/
theorem readX (X : S3x32x8x512.Idx → F .f32) (off : Fin 4 → ℕ) (d : Fin 3) (c : ℕ) (hc : c < 32) (ho : off = ![d.val, c, 0, 0]) (h) :
    shapeCast S8x512 (View.readAt (Elt F) arg0.view (Rect.unit (s := S3x32x8x512) off S1x1x8x512.size h).toLoadRect (harg0.unread X)) shapeCasts_S1x1x8x512_S8x512
      = xs X d c hc := by
  subst ho
  funext i
  rw [shapeCast_apply _ _ i (ix4 (0 : Fin 1) (0 : Fin 1) (i 0) (i 1) : S1x1x8x512.Idx) (by
    rw [Shape.rowMajor_val_four, Shape.rowMajor_val_two]; simp)]
  rw [harg0.readAt_unread]
  unfold xs
  congr 1
  funext a
  fin_cases a <;> (apply Fin.ext; simp [LoadRect.idx, Rect.toLoadRect, Rect.unit])

/-- Reading a chunk of the running minima. -/
theorem readM (M : Mins F) (off : Fin 3 → ℕ) (c : ℕ) (ho : off = ![c, 0, 0]) (h) :
    shapeCast S8x512 (View.readAt (Elt F) arg3.view (Rect.unit (s := S32x8x512) off S1x8x512.size h).toLoadRect (harg3.unread (packM M))) shapeCasts_S1x8x512_S8x512
      = M c := by
  subst ho
  funext i
  rw [shapeCast_apply _ _ i (ix3 (0 : Fin 1) (i 0) (i 1) : S1x8x512.Idx) (by
    rw [Shape.rowMajor_val_three, Shape.rowMajor_val_two]; simp)]
  rw [harg3.readAt_unread]
  unfold packM
  refine congr (congrArg M ?_) ?_
  · simp [LoadRect.idx, Rect.toLoadRect, Rect.unit]
  · funext a
    fin_cases a <;> (apply Fin.ext; simp [LoadRect.idx, Rect.toLoadRect, Rect.unit])

/-- Reading a small result. -/
theorem readC (C : Cols F) (c : ℕ) (h) :
    shapeCast S8x1 (View.readAt (Elt F) arg4.view (Rect.unit (s := S4x8x1) ![c, 0, 0] S1x8x1.size h).toLoadRect (harg4.unread (packC C))) shapeCasts_S1x8x1_S8x1
      = C c := by
  funext i
  rw [shapeCast_apply _ _ i (ix3 (0 : Fin 1) (i 0) (i 1) : S1x8x1.Idx) (by
    rw [Shape.rowMajor_val_three, Shape.rowMajor_val_two]; simp)]
  rw [harg4.readAt_unread]
  unfold packC
  refine congr (congrArg C ?_) ?_
  · simp [LoadRect.idx, Rect.toLoadRect, Rect.unit]
  · funext a
    fin_cases a <;> (apply Fin.ext; simp [LoadRect.idx, Rect.toLoadRect, Rect.unit])
    exact (Nat.lt_one_iff.mp (i 1).isLt).symm

/-- Writing a chunk of the running minima. -/
theorem writeM (M : Mins F) (c : ℕ) (v : FVec F S8x512 .f32) (h) :
    arg3.view.writes (Elt F) (harg3.unread (packM M)) [⟨Rect.unit (s := S32x8x512) ![c, 0, 0] S1x8x512.size h, shapeCast S1x8x512 v shapeCasts_S8x512_S1x8x512⟩]
      = harg3.unread (packM (Function.update M c v)) := by
  refine harg3.eq_unread ?_
  funext i
  by_cases hi : (i 0).val = c
  · rw [View.read_writes_cons_unit_of_mem arg3.view _ h _ [] i (ix3 (0 : Fin 1) (i 1) (i 2) : S1x8x512.Idx) rfl (by
      intro a; fin_cases a <;> simp [hi])]
    rw [shapeCast_apply _ _ _ (ix2 (i 1) (i 2) : S8x512.Idx) (by
      rw [Shape.rowMajor_val_three, Shape.rowMajor_val_two]; simp)]
    unfold packM
    rw [hi, Function.update_self]
  · rw [View.read_writes_cons_unit_of_not_mem arg3.view _ h _ [] i rfl 0 (by simp; omega)]
    rw [View.writes_nil, harg3.read_unread]
    unfold packM
    rw [Function.update_of_ne hi]

/-- Writing a small result. -/
theorem writeC (C : Cols F) (c : ℕ) (v : FVec F S8x1 .f32) (h) :
    arg4.view.writes (Elt F) (harg4.unread (packC C)) [⟨Rect.unit (s := S4x8x1) ![c, 0, 0] S1x8x1.size h, shapeCast S1x8x1 v shapeCasts_S8x1_S1x8x1⟩]
      = harg4.unread (packC (Function.update C c v)) := by
  refine harg4.eq_unread ?_
  funext i
  by_cases hi : (i 0).val = c
  · rw [View.read_writes_cons_unit_of_mem arg4.view _ h _ [] i (ix3 (0 : Fin 1) (i 1) (i 2) : S1x8x1.Idx) rfl (by
      intro a; fin_cases a <;> simp [hi])]
    rw [shapeCast_apply _ _ _ (ix2 (i 1) (i 2) : S8x1.Idx) (by
      rw [Shape.rowMajor_val_three, Shape.rowMajor_val_two]; simp)]
    unfold packC
    rw [hi, Function.update_self]
  · rw [View.read_writes_cons_unit_of_not_mem arg4.view _ h _ [] i rfl 0 (by simp; omega)]
    rw [View.writes_nil, harg4.read_unread]
    unfold packC
    rw [Function.update_of_ne hi]

variable {arg1 : Memref sig .tc .vmem S8x1 .i32} (harg1 : arg1.IsWhole)
  {arg2 : Memref sig .tc .vmem S8x512 .i32} (harg2 : arg2.IsWhole)

/-- Reading the first indices. -/
theorem readI (I : IVec S8x1 32) (h) :
    View.readAt (Elt F) arg1.view (Rect.unit (s := S8x1) ![0, 0] S8x1.size h).toLoadRect (harg1.unread (Val := Elt F) I) = I := by
  funext i
  rw [harg1.readAt_unread]
  congr 1
  funext a
  fin_cases a <;> (apply Fin.ext; simp [LoadRect.idx, Rect.toLoadRect, Rect.unit])
  exact (Nat.lt_one_iff.mp (i 1).isLt).symm

/-- Reading the result. -/
theorem readO (O : IVec S8x512 32) (h) :
    View.readAt (Elt F) arg2.view (Rect.unit (s := S8x512) ![0, 0] S8x512.size h).toLoadRect (harg2.unread (Val := Elt F) O) = O := by
  funext i
  rw [harg2.readAt_unread]
  congr 1
  funext a
  fin_cases a <;> (apply Fin.ext; simp [LoadRect.idx, Rect.toLoadRect, Rect.unit])

/-- Writing the result. -/
theorem writeO (O v : IVec S8x512 32) (h) :
    arg2.view.writes (Elt F) (harg2.unread (Val := Elt F) O) [⟨Rect.unit (s := S8x512) ![0, 0] S8x512.size h, v⟩] = harg2.unread (Val := Elt F) v := by
  refine harg2.eq_unread ?_
  funext i
  exact View.read_writes_cons_unit_of_mem arg2.view _ h _ [] i i rfl (by
      intro a; fin_cases a <;> simp)

end

end Cert.KernelIdeal.Shape
-- ==== Proof.Runs.lean ====
/-
What the kernel's pieces do to the buffers: each piece, run from buffers at named contents, returns a named
value and leaves named contents. The contents and values are plain functions, defined here next to the pieces.
-/
module
public import proofs.«01_k».proof.Proof.Contents
@[expose] public section
noncomputable section
namespace Cert.KernelIdeal.Shape
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
local notation "𝕄G" => MT nD τ sig Unit (Elt F) ℕ (UR sig nD τ) ℕ

/-! ## The functions -/

/-- A chunk's new minima. -/
def mdAt (X : S3x32x8x512.Idx → F .f32) (M : Mins F) (cen : Cen F) (c : ℕ) (hc : c < 32) : FVec F S8x512 .f32 :=
  minimumf (M c) (sqd cen (xs X 0 c hc) (xs X 1 c hc) (xs X 2 c hc))

/-- What a chunk makes of the running values. -/
def accAt (X : S3x32x8x512.Idx → F .f32) (M : Mins F) (cen : Cen F) (c : ℕ) (hc : c < 32) (a : Acc F) : Acc F :=
  accNext c a (mdAt X M cen c hc) (xs X 0 c hc) (xs X 1 c hc) (xs X 2 c hc)

/-- The running values after the last `n` chunks, from chunk `c` on. -/
def accsAt (X : S3x32x8x512.Idx → F .f32) (cen : Cen F) : (n c : ℕ) → (h : c + n = 32) → Mins F → Acc F → Acc F
  | 0, _, _, _, a => a
  | n + 1, c, h, M, a => accsAt X cen n (c + 1) (by omega) (Function.update M c (mdAt X M cen c (by omega))) (accAt X M cen c (by omega) a)

/-- The running minima after the last `n` chunks, from chunk `c` on. -/
def minsAt (X : S3x32x8x512.Idx → F .f32) (cen : Cen F) : (n c : ℕ) → (h : c + n = 32) → Mins F → Mins F
  | 0, _, _, M => M
  | n + 1, c, h, M => minsAt X cen n (c + 1) (by omega) (Function.update M c (mdAt X M cen c (by omega)))

/-- The exact search's carried values before its trip `k`. -/
def carAt (X : S3x32x8x512.Idx → F .f32) (M : Mins F) (v1 : FVec F S8x512 .f32) : ℕ → Car F
  | 0 => car0
  | k + 1 => if h : k < k0_t2_loop.trips then
      carNext v1 ⟨k, h⟩ (carAt X M v1 k) (M k) (xs X 0 k (Nat.lt_of_lt_of_le h k0_t2_abs.2.1)) (xs X 1 k (Nat.lt_of_lt_of_le h k0_t2_abs.2.1)) (xs X 2 k (Nat.lt_of_lt_of_le h k0_t2_abs.2.1))
    else carAt X M v1 k

/-- A trip of the exact search takes the carried values on. -/
theorem carAt_succ (X : S3x32x8x512.Idx → F .f32) (M : Mins F) (v1 : FVec F S8x512 .f32) (k : Fin k0_t2_loop.trips) :
    carAt X M v1 (k.val + 1) = carNext v1 k (carAt X M v1 k.val) (M k.val) (xs X 0 k.val (Nat.lt_of_lt_of_le k.isLt k0_t2_abs.2.1)) (xs X 1 k.val (Nat.lt_of_lt_of_le k.isLt k0_t2_abs.2.1)) (xs X 2 k.val (Nat.lt_of_lt_of_le k.isLt k0_t2_abs.2.1)) := by
  conv_lhs => unfold carAt
  exact dif_pos k.isLt

/-- The small results after the exact search ends at `q`. -/
def slowCols (C : Cols F) (q : Car F) : Cols F :=
  Function.update (Function.update (Function.update (Function.update C 0 (rowPick (slowSel q) q.2.2.1)) 1 (rowPick (slowSel q) q.2.2.2.1)) 2 (rowPick (slowSel q) q.2.2.2.2)) 3 (slowFlat q)

/-- The small results by the lane of the maximum. -/
def fastCols (C : Cols F) (v1 : FVec F S8x512 .f32) (a : Acc F) : Cols F :=
  Function.update (Function.update (Function.update (Function.update C 0 (rowPick (atMax a) a.x)) 1 (rowPick (atMax a) a.y)) 2 (rowPick (atMax a) a.z)) 3 (rowPick (atMax a) (flat v1 a))

/-- The small results at the end of a step. -/
def endCols (X : S3x32x8x512.Idx → F .f32) (M : Mins F) (C : Cols F) (v1 : FVec F S8x512 .f32) (a : Acc F) : Cols F :=
  if slow (cnt a) = 1#1 then slowCols (fastCols C v1 a) (carAt X M v1 k0_t2_loop.trips) else fastCols C v1 a

/-- The state read back from the small results. -/
def stOf (C : Cols F) : St F := (fptosi 32 (C 3), C 0, C 1, C 2)

/-- The result with column `t` set. -/
def recAt (v3 : IVec S8x512 32) (t : BitVec 32) (i : IVec S8x1 32) (O : IVec S8x512 32) : IVec S8x512 32 :=
  select (cmpi .eq v3 (broadcast S8x512 t)) (broadcastTo S8x512 (shapeCast S8x1 i shapeCasts_S8x1_S8x1) broadcasts_S8x1_S8x512) (shapeCast S8x512 O shapeCasts_S8x512_S8x512)

/-- Everything a step changes: the result, the minima, the small results, the state. -/
structure All (F : FTy → Type) [FloatOps F] where
  O : IVec S8x512 32
  M : Mins F
  C : Cols F
  s : St F

/-- The centroid of a state. -/
abbrev cenOf (s : St F) : Cen F := ⟨s.2.1, s.2.2.1, s.2.2.2⟩

/-- What a step makes of it all. -/
def stepAt (X : S3x32x8x512.Idx → F .f32) (v1 : FVec F S8x512 .f32) (v3 : IVec S8x512 32) (t : BitVec 32) (A : All F) : All F :=
  let M' := minsAt X (cenOf A.s) 32 0 rfl A.M
  let C' := endCols X M' A.C v1 (accsAt X (cenOf A.s) 32 0 rfl A.M acc0)
  ⟨recAt v3 t A.s.1 A.O, M', C', stOf C'⟩

/-- What a trip of the main loop makes of it all. -/
def tripAt (X : S3x32x8x512.Idx → F .f32) (v1 : FVec F S8x512 .f32) (v3 : IVec S8x512 32) (k : ℕ) (A : All F) : All F :=
  stepAt X v1 v3 (Scalar.addi (Scalar.muli 2#32 (Scf.iv 0#32 1#32 k)) 1#32) (stepAt X v1 v3 (Scalar.muli 2#32 (Scf.iv 0#32 1#32 k)) A)

/-- It all before trip `k`. -/
def tripsAt (X : S3x32x8x512.Idx → F .f32) (v1 : FVec F S8x512 .f32) (v3 : IVec S8x512 32) (A : All F) : ℕ → All F
  | 0 => A
  | k + 1 => tripAt X v1 v3 k (tripsAt X v1 v3 A k)

/-- The minima after the last `n` chunks, from chunk `c` on, are set to +∞. -/
def fillsAt : (n c : ℕ) → Mins F → Mins F
  | 0, _, M => M
  | n + 1, c, M => fillsAt n (c + 1) (Function.update M c (lit 0x7F800000#32))

/-- The first centroid over the last `n` chunks, from chunk `c` on. -/
def firstsAt (X : S3x32x8x512.Idx → F .f32) (i : IVec S8x1 32) : (n c : ℕ) → (h : c + n = 32) → Cen F → Cen F
  | 0, _, _, a => a
  | n + 1, c, h, a => firstsAt X i n (c + 1) (by omega)
      ⟨addf a.x (rowPick (hot c i) (xs X 0 c (by omega))), addf a.y (rowPick (hot c i) (xs X 1 c (by omega))), addf a.z (rowPick (hot c i) (xs X 2 c (by omega)))⟩

/-- It all before the main loop. -/
def startAt (X : S3x32x8x512.Idx → F .f32) (I : IVec S8x1 32) (M : Mins F) (C : Cols F) : All F :=
  let cen := firstsAt X I 32 0 rfl cen0
  ⟨broadcast S8x512 0#32, fillsAt 32 0 M, C, (I, cen.x, cen.y, cen.z)⟩

/-- It all at the end of the body. -/
def bodyAt (X : S3x32x8x512.Idx → F .f32) (I : IVec S8x1 32) (M : Mins F) (C : Cols F) : All F :=
  tripsAt X laneF laneI (startAt X I M C) k0_t1_loop.trips

/-! ## The runs -/

section
variable {arg0 : Memref sig .tc .vmem S3x32x8x512 .f32} (harg0 : arg0.IsWhole)
  {arg1 : Memref sig .tc .vmem S8x1 .i32} (harg1 : arg1.IsWhole)
  {arg2 : Memref sig .tc .vmem S8x512 .i32} (harg2 : arg2.IsWhole)
  {arg3 : Memref sig .tc .vmem S32x8x512 .f32} (harg3 : arg3.IsWhole)
  {arg4 : Memref sig .tc .vmem S4x8x1 .f32} (harg4 : arg4.IsWhole)
  (𝒱 : Variants) (cc : Dev nD) (bd : Option 𝒱.V) (E : Set ℕ)

/-- The five buffers, held. -/
abbrev Held (X : S3x32x8x512.Idx → F .f32) (I : IVec S8x1 32) (O : IVec S8x512 32) (M : Mins F) (C : Cols F) : sProp 𝕄G :=
  iprop((arg0.view.loc (cc : Thread nD τ) ↦[arg0.view.set]{fullShare} harg0.unread X)
    ∗ (arg1.view.loc (cc : Thread nD τ) ↦[arg1.view.set]{fullShare} (harg1.unread (Val := Elt F) I))
    ∗ (arg2.view.loc (cc : Thread nD τ) ↦[arg2.view.set]{fullShare} (harg2.unread (Val := Elt F) O))
    ∗ (arg3.view.loc (cc : Thread nD τ) ↦[arg3.view.set]{fullShare} harg3.unread (packM M))
    ∗ (arg4.view.loc (cc : Thread nD τ) ↦[arg4.view.set]{fullShare} harg4.unread (packC C)))

/-- Two programs in sequence: the first returns `v` and leaves `P'`, the second goes on from there. -/
theorem bind_run {α β : Type} {p : K F α} {k : α → K F β} {P P' : sProp 𝕄G} {Q : β → sProp 𝕄G} {v : α}
    (h : P ⊢ wp frame (wpE (defs₀ (F := F)) 𝒱 (cc : Thread nD τ) bd) E p (fun r => iprop(⌜r = v⌝ ∗ P')))
    (hk : P' ⊢ wp frame (wpE (defs₀ (F := F)) 𝒱 (cc : Thread nD τ) bd) E (k v) Q) :
    P ⊢ wp frame (wpE (defs₀ (F := F)) 𝒱 (cc : Thread nD τ) bd) E (p >>= k) Q := by
  rw [wp_bind]
  refine h.trans (wp_mono _ _ _ fun r => ?_)
  iintro ⟨%hr, HP⟩
  subst hr
  iapply hk
  iexact HP

/-- A program that does nothing. -/
theorem ret_run {α : Type} {P : sProp 𝕄G} {v : α} :
    P ⊢ wp frame (wpE (defs₀ (F := F)) 𝒱 (cc : Thread nD τ) bd) E (pure v : K F α) (fun r => iprop(⌜r = v⌝ ∗ P)) := by
  refine BIBase.Entails.trans ?_ (le_wp_ret _ _ _ _ _)
  iintro HP
  isplitl []
  · ipureintro; rfl
  iexact HP

variable (X : S3x32x8x512.Idx → F .f32) (I : IVec S8x1 32) (O : IVec S8x512 32) (M : Mins F) (C : Cols F)

/-- A chunk. -/
theorem chunk_run (cen : Cen F) (c : ℕ) (hc : c < 32) (a : Acc F) :
   Held harg0 harg1 harg2 harg3 harg4 cc X I O M C
   ⊢ wp frame (wpE (defs₀ (F := F)) 𝒱 (cc : Thread nD τ) bd) E (chunk arg0 arg3 cen c hc a)
      (fun r => iprop(⌜r = accAt X M cen c hc a⌝ ∗ Held harg0 harg1 harg2 harg3 harg4 cc X I O (Function.update M c (mdAt X M cen c hc)) C)) := by
  unfold chunk storeM loadX loadM
  iintro ⟨H0, H1, H2, H3, H4⟩
  sl_exec
  delta chunk_run.sl.md chunk_run.sl.d
  rw [readM harg3 M _ c rfl, readX harg0 X ![0, c, 0, 0] 0 c hc rfl, readX harg0 X ![1, c, 0, 0] 1 c hc rfl, readX harg0 X ![2, c, 0, 0] 2 c hc rfl, writeM]
  sl_step
  isplitl []
  · ipureintro; rfl
  isplitl [H0]; · iexact H0
  isplitl [H1]; · iexact H1
  isplitl [H2]; · iexact H2
  isplitl [H3]; · iexact H3
  iexact H4

/-- All chunks. -/
theorem chunks_run (cen : Cen F) (n c : ℕ) (h : c + n = 32) (M : Mins F) (a : Acc F) :
   Held harg0 harg1 harg2 harg3 harg4 cc X I O M C
   ⊢ wp frame (wpE (defs₀ (F := F)) 𝒱 (cc : Thread nD τ) bd) E (chunks arg0 arg3 cen n c h a)
      (fun r => iprop(⌜r = accsAt X cen n c h M a⌝ ∗ Held harg0 harg1 harg2 harg3 harg4 cc X I O (minsAt X cen n c h M) C)) := by
  induction n generalizing c M a with
  | zero => exact ret_run 𝒱 cc bd E
  | succ n ih =>
    refine bind_run 𝒱 cc bd E (chunk_run harg0 harg1 harg2 harg3 harg4 𝒱 cc bd E X I O M C cen c (by omega) a) ?_
    exact ih (c + 1) (by omega) _ _

/-- Reading a small result. -/
theorem loadC_run (j : ℕ) (hj : j < 4) :
   Held harg0 harg1 harg2 harg3 harg4 cc X I O M C
   ⊢ wp frame (wpE (defs₀ (F := F)) 𝒱 (cc : Thread nD τ) bd) E (loadC arg4 j hj)
      (fun r => iprop(⌜r = View.readAt (Elt F) arg4.view (Rect.unit (s := S4x8x1) ![j, 0, 0] S1x8x1.size (inbC j hj)).toLoadRect (harg4.unread (packC C))⌝ ∗ Held harg0 harg1 harg2 harg3 harg4 cc X I O M C)) := by
  unfold loadC
  iintro ⟨H0, H1, H2, H3, H4⟩
  sl_exec
  sl_step
  isplitl []
  · ipureintro; rfl
  isplitl [H0]; · iexact H0
  isplitl [H1]; · iexact H1
  isplitl [H2]; · iexact H2
  isplitl [H3]; · iexact H3
  iexact H4

/-- Writing a small result. -/
theorem storeC_run (j : ℕ) (hj : j < 4) (v : FVec F S8x1 .f32) :
   Held harg0 harg1 harg2 harg3 harg4 cc X I O M C
   ⊢ wp frame (wpE (defs₀ (F := F)) 𝒱 (cc : Thread nD τ) bd) E (storeC arg4 j hj v)
      (fun r => iprop(⌜r = ⟨⟩⌝ ∗ Held harg0 harg1 harg2 harg3 harg4 cc X I O M (Function.update C j v))) := by
  unfold storeC loadC
  iintro ⟨H0, H1, H2, H3, H4⟩
  sl_exec
  rw [writeC]
  sl_step
  isplitl []
  · ipureintro; rfl
  isplitl [H0]; · iexact H0
  isplitl [H1]; · iexact H1
  isplitl [H2]; · iexact H2
  isplitl [H3]; · iexact H3
  iexact H4

/-- Writing the first small result, already read. -/
theorem storeC0_run (v : FVec F S8x1 .f32) :
   Held harg0 harg1 harg2 harg3 harg4 cc X I O M C
   ⊢ wp frame (wpE (defs₀ (F := F)) 𝒱 (cc : Thread nD τ) bd) E (storeC0 arg4 (shapeCast S1x8x1 v shapeCasts_S8x1_S1x8x1))
      (fun r => iprop(⌜r = ⟨⟩⌝ ∗ Held harg0 harg1 harg2 harg3 harg4 cc X I O M (Function.update C 0 v))) := by
  unfold storeC0
  iintro ⟨H0, H1, H2, H3, H4⟩
  sl_exec
  rw [writeC]
  sl_step
  isplitl []
  · ipureintro; rfl
  isplitl [H0]; · iexact H0
  isplitl [H1]; · iexact H1
  isplitl [H2]; · iexact H2
  isplitl [H3]; · iexact H3
  iexact H4

/-- A trip of the exact search. -/
theorem slowTrip_run (v1 : FVec F S8x512 .f32) (k : Fin k0_t2_loop.trips) (q : Car F) (hk : k.val < 32) :
   Held harg0 harg1 harg2 harg3 harg4 cc X I O M C
   ⊢ wp frame (wpE (defs₀ (F := F)) 𝒱 (cc : Thread nD τ) bd) E (slowTrip arg0 arg3 v1 k q)
      (fun r => iprop(⌜r = carNext v1 k q (M k.val) (xs X 0 k.val hk) (xs X 1 k.val hk) (xs X 2 k.val hk)⌝ ∗ Held harg0 harg1 harg2 harg3 harg4 cc X I O M C)) := by
  unfold slowTrip
  iintro ⟨H0, H1, H2, H3, H4⟩
  sl_exec
  rw [readM harg3 M (k0_off1 k) k.val (k0_off1_eq k), readX harg0 X (k0_off2 k) 0 k.val hk (k0_off2_eq k), readX harg0 X (k0_off3 k) 1 k.val hk (k0_off3_eq k), readX harg0 X (k0_off4 k) 2 k.val hk (k0_off4_eq k)]
  sl_step
  isplitl []
  · ipureintro; rfl
  isplitl [H0]; · iexact H0
  isplitl [H1]; · iexact H1
  isplitl [H2]; · iexact H2
  isplitl [H3]; · iexact H3
  iexact H4

/-- The exact search's loop. -/
theorem slowLoop_run (v1 : FVec F S8x512 .f32) :
   Held harg0 harg1 harg2 harg3 harg4 cc X I O M C
   ⊢ wp frame (wpE (defs₀ (F := F)) 𝒱 (cc : Thread nD τ) bd) E (Scf.Loop.for k0_t2_loop k0_t2_ok (car0 (F := F)) (slowTrip arg0 arg3 v1))
      (fun r => iprop(⌜r = carAt X M v1 k0_t2_loop.trips⌝ ∗ Held harg0 harg1 harg2 harg3 harg4 cc X I O M C)) := by
  refine BIBase.Entails.trans ?_ (Scf.wp_for frame (wpE (defs₀ (F := F)) 𝒱 (cc : Thread nD τ) bd) E k0_t2_loop.lb k0_t2_loop.ub k0_t2_loop.st k0_t2_ok (car0 (F := F)) (slowTrip arg0 arg3 v1)
    (fun k acc => iprop(⌜acc = carAt X M v1 k⌝ ∗ Held harg0 harg1 harg2 harg3 harg4 cc X I O M C)) ?_)
  · iintro H
    isplitl [H]
    · isplitl []
      · ipureintro; rfl
      iexact H
    iintro %acc H
    iexact H
  · intro k acc
    iintro ⟨%hacc, H⟩
    subst hacc
    iapply (wp_mono frame (wpE (defs₀ (F := F)) 𝒱 (cc : Thread nD τ) bd) E (p := slowTrip arg0 arg3 v1 k (carAt X M v1 k.val)) (Q := fun r => iprop(⌜r = carNext v1 k (carAt X M v1 k.val) (M k.val) (xs X 0 k.val (Nat.lt_of_lt_of_le k.isLt k0_t2_abs.2.1)) (xs X 1 k.val (Nat.lt_of_lt_of_le k.isLt k0_t2_abs.2.1)) (xs X 2 k.val (Nat.lt_of_lt_of_le k.isLt k0_t2_abs.2.1))⌝ ∗ Held harg0 harg1 harg2 harg3 harg4 cc X I O M C)) (fun r => by
      iintro ⟨%hr, H⟩
      isplitl []
      · ipureintro; rw [hr]; exact (carAt_succ X M v1 k).symm
      iexact H))
    iapply (slowTrip_run harg0 harg1 harg2 harg3 harg4 𝒱 cc bd E X I O M C v1 k (carAt X M v1 k.val) (Nat.lt_of_lt_of_le k.isLt k0_t2_abs.2.1))
    iexact H

/-- The exact search. -/
theorem slowPath_run (v1 : FVec F S8x512 .f32) :
   Held harg0 harg1 harg2 harg3 harg4 cc X I O M C
   ⊢ wp frame (wpE (defs₀ (F := F)) 𝒱 (cc : Thread nD τ) bd) E (slowPath arg0 arg3 arg4 v1)
      (fun r => iprop(⌜r = ⟨⟩⌝ ∗ Held harg0 harg1 harg2 harg3 harg4 cc X I O M (slowCols C (carAt X M v1 k0_t2_loop.trips)))) := by
  unfold slowPath
  refine bind_run 𝒱 cc bd E (slowLoop_run harg0 harg1 harg2 harg3 harg4 𝒱 cc bd E X I O M C v1) ?_
  refine bind_run 𝒱 cc bd E (storeC_run harg0 harg1 harg2 harg3 harg4 𝒱 cc bd E X I O M _ 0 (by decide) _) ?_
  refine bind_run 𝒱 cc bd E (storeC_run harg0 harg1 harg2 harg3 harg4 𝒱 cc bd E X I O M _ 1 (by decide) _) ?_
  refine bind_run 𝒱 cc bd E (storeC_run harg0 harg1 harg2 harg3 harg4 𝒱 cc bd E X I O M _ 2 (by decide) _) ?_
  refine bind_run 𝒱 cc bd E (storeC_run harg0 harg1 harg2 harg3 harg4 𝒱 cc bd E X I O M _ 3 (by decide) _) ?_
  exact ret_run 𝒱 cc bd E

/-- The exact search where asked for, and the flat position read back. -/
theorem ite_run (v1 : FVec F S8x512 .f32) (n : FVec F S8x1 .f32) :
   Held harg0 harg1 harg2 harg3 harg4 cc X I O M C
   ⊢ wp frame (wpE (defs₀ (F := F)) 𝒱 (cc : Thread nD τ) bd) E (if slow n = 1#1 then (do slowPath arg0 arg3 arg4 v1; loadC arg4 3 (by decide)) else loadC arg4 3 (by decide))
      (fun r => iprop(⌜r = View.readAt (Elt F) arg4.view (Rect.unit (s := S4x8x1) ![3, 0, 0] S1x8x1.size (inbC 3 (by decide))).toLoadRect (harg4.unread (packC (if slow n = 1#1 then slowCols C (carAt X M v1 k0_t2_loop.trips) else C)))⌝
        ∗ Held harg0 harg1 harg2 harg3 harg4 cc X I O M (if slow n = 1#1 then slowCols C (carAt X M v1 k0_t2_loop.trips) else C))) := by
  by_cases h : slow n = 1#1
  · simp only [if_pos h]
    refine bind_run 𝒱 cc bd E (slowPath_run harg0 harg1 harg2 harg3 harg4 𝒱 cc bd E X I O M C v1) ?_
    exact loadC_run harg0 harg1 harg2 harg3 harg4 𝒱 cc bd E X I O M _ 3 (by decide)
  · simp only [if_neg h]
    exact loadC_run harg0 harg1 harg2 harg3 harg4 𝒱 cc bd E X I O M _ 3 (by decide)

/-- The end of a step. -/
theorem finish_run (v1 : FVec F S8x512 .f32) (a : Acc F) :
   Held harg0 harg1 harg2 harg3 harg4 cc X I O M C
   ⊢ wp frame (wpE (defs₀ (F := F)) 𝒱 (cc : Thread nD τ) bd) E (finish arg0 arg3 arg4 v1 a)
      (fun r => iprop(⌜r = stOf (endCols X M C v1 a)⌝ ∗ Held harg0 harg1 harg2 harg3 harg4 cc X I O M (endCols X M C v1 a))) := by
  unfold finish tail
  simp only [bind_assoc]
  refine bind_run 𝒱 cc bd E (loadC_run harg0 harg1 harg2 harg3 harg4 𝒱 cc bd E X I O M _ 0 (by decide)) ?_
  refine bind_run 𝒱 cc bd E (storeC0_run harg0 harg1 harg2 harg3 harg4 𝒱 cc bd E X I O M _ _) ?_
  refine bind_run 𝒱 cc bd E (storeC_run harg0 harg1 harg2 harg3 harg4 𝒱 cc bd E X I O M _ 1 (by decide) _) ?_
  refine bind_run 𝒱 cc bd E (storeC_run harg0 harg1 harg2 harg3 harg4 𝒱 cc bd E X I O M _ 2 (by decide) _) ?_
  refine bind_run 𝒱 cc bd E (storeC_run harg0 harg1 harg2 harg3 harg4 𝒱 cc bd E X I O M _ 3 (by decide) _) ?_
  refine bind_run 𝒱 cc bd E (ite_run harg0 harg1 harg2 harg3 harg4 𝒱 cc bd E X I O M _ v1 (cnt a)) ?_
  refine bind_run 𝒱 cc bd E (loadC_run harg0 harg1 harg2 harg3 harg4 𝒱 cc bd E X I O M _ 0 (by decide)) ?_
  refine bind_run 𝒱 cc bd E (loadC_run harg0 harg1 harg2 harg3 harg4 𝒱 cc bd E X I O M _ 1 (by decide)) ?_
  refine bind_run 𝒱 cc bd E (loadC_run harg0 harg1 harg2 harg3 harg4 𝒱 cc bd E X I O M _ 2 (by decide)) ?_
  rw [readC, readC, readC, readC]
  exact ret_run 𝒱 cc bd E

/-- Recording an index. -/
theorem record_run (v3 : IVec S8x512 32) (t : BitVec 32) (i : IVec S8x1 32) :
   Held harg0 harg1 harg2 harg3 harg4 cc X I O M C
   ⊢ wp frame (wpE (defs₀ (F := F)) 𝒱 (cc : Thread nD τ) bd) E (record arg2 v3 t i)
      (fun r => iprop(⌜r = ⟨⟩⌝ ∗ Held harg0 harg1 harg2 harg3 harg4 cc X I (recAt v3 t i O) M C)) := by
  unfold record storeO loadO
  iintro ⟨H0, H1, H2, H3, H4⟩
  sl_exec
  rw [readO harg2, writeO harg2]
  sl_step
  isplitl []
  · ipureintro; rfl
  isplitl [H0]; · iexact H0
  isplitl [H1]; · iexact H1
  isplitl [H2]; · iexact H2
  isplitl [H3]; · iexact H3
  iexact H4

/-- A step. -/
theorem step_run (v1 : FVec F S8x512 .f32) (v3 : IVec S8x512 32) (t : BitVec 32) (A : All F) :
   Held harg0 harg1 harg2 harg3 harg4 cc X I A.O A.M A.C
   ⊢ wp frame (wpE (defs₀ (F := F)) 𝒱 (cc : Thread nD τ) bd) E (step arg0 arg2 arg3 arg4 v1 v3 t A.s)
      (fun r => iprop(⌜r = (stepAt X v1 v3 t A).s⌝ ∗ Held harg0 harg1 harg2 harg3 harg4 cc X I (stepAt X v1 v3 t A).O (stepAt X v1 v3 t A).M (stepAt X v1 v3 t A).C)) := by
  unfold step
  refine bind_run 𝒱 cc bd E (record_run harg0 harg1 harg2 harg3 harg4 𝒱 cc bd E X I A.O A.M A.C v3 t A.s.1) ?_
  refine bind_run 𝒱 cc bd E (chunks_run harg0 harg1 harg2 harg3 harg4 𝒱 cc bd E X I _ A.C _ 32 0 rfl A.M acc0) ?_
  exact finish_run harg0 harg1 harg2 harg3 harg4 𝒱 cc bd E X I _ _ A.C v1 _

/-- A trip of the main loop. -/
theorem trip_run (v1 : FVec F S8x512 .f32) (v3 : IVec S8x512 32) (k : Fin k0_t1_loop.trips) (A : All F) :
   Held harg0 harg1 harg2 harg3 harg4 cc X I A.O A.M A.C
   ⊢ wp frame (wpE (defs₀ (F := F)) 𝒱 (cc : Thread nD τ) bd) E (trip arg0 arg2 arg3 arg4 v1 v3 k A.s)
      (fun r => iprop(⌜r = (tripAt X v1 v3 k A).s⌝ ∗ Held harg0 harg1 harg2 harg3 harg4 cc X I (tripAt X v1 v3 k A).O (tripAt X v1 v3 k A).M (tripAt X v1 v3 k A).C)) := by
  unfold trip
  refine bind_run 𝒱 cc bd E (step_run harg0 harg1 harg2 harg3 harg4 𝒱 cc bd E X I v1 v3 _ A) ?_
  exact step_run harg0 harg1 harg2 harg3 harg4 𝒱 cc bd E X I v1 v3 _ _

/-- The main loop. -/
theorem mainLoop_run (v1 : FVec F S8x512 .f32) (v3 : IVec S8x512 32) (A : All F) :
   Held harg0 harg1 harg2 harg3 harg4 cc X I A.O A.M A.C
   ⊢ wp frame (wpE (defs₀ (F := F)) 𝒱 (cc : Thread nD τ) bd) E (Scf.Loop.for k0_t1_loop k0_t1_ok A.s (trip arg0 arg2 arg3 arg4 v1 v3))
      (fun r => iprop(⌜r = (tripsAt X v1 v3 A k0_t1_loop.trips).s⌝ ∗ Held harg0 harg1 harg2 harg3 harg4 cc X I (tripsAt X v1 v3 A k0_t1_loop.trips).O (tripsAt X v1 v3 A k0_t1_loop.trips).M (tripsAt X v1 v3 A k0_t1_loop.trips).C)) := by
  refine BIBase.Entails.trans ?_ (Scf.wp_for frame (wpE (defs₀ (F := F)) 𝒱 (cc : Thread nD τ) bd) E k0_t1_loop.lb k0_t1_loop.ub k0_t1_loop.st k0_t1_ok A.s (trip arg0 arg2 arg3 arg4 v1 v3)
    (fun k acc => iprop(⌜acc = (tripsAt X v1 v3 A k).s⌝ ∗ Held harg0 harg1 harg2 harg3 harg4 cc X I (tripsAt X v1 v3 A k).O (tripsAt X v1 v3 A k).M (tripsAt X v1 v3 A k).C)) ?_)
  · iintro H
    isplitl [H]
    · isplitl []
      · ipureintro; rfl
      iexact H
    iintro %acc H
    iexact H
  · intro k acc
    iintro ⟨%hacc, H⟩
    subst hacc
    iapply (trip_run harg0 harg1 harg2 harg3 harg4 𝒱 cc bd E X I v1 v3 k (tripsAt X v1 v3 A k.val))
    iexact H

/-- Filling a chunk of the minima. -/
theorem storeM_run (c : ℕ) (hc : c < 32) (v : FVec F S8x512 .f32) :
   Held harg0 harg1 harg2 harg3 harg4 cc X I O M C
   ⊢ wp frame (wpE (defs₀ (F := F)) 𝒱 (cc : Thread nD τ) bd) E (storeM arg3 c hc v)
      (fun r => iprop(⌜r = ⟨⟩⌝ ∗ Held harg0 harg1 harg2 harg3 harg4 cc X I O (Function.update M c v) C)) := by
  unfold storeM loadM
  iintro ⟨H0, H1, H2, H3, H4⟩
  sl_exec
  rw [writeM]
  sl_step
  isplitl []
  · ipureintro; rfl
  isplitl [H0]; · iexact H0
  isplitl [H1]; · iexact H1
  isplitl [H2]; · iexact H2
  isplitl [H3]; · iexact H3
  iexact H4

/-- Filling the minima. -/
theorem fills_run (n c : ℕ) (h : c + n = 32) (M : Mins F) :
   Held harg0 harg1 harg2 harg3 harg4 cc X I O M C
   ⊢ wp frame (wpE (defs₀ (F := F)) 𝒱 (cc : Thread nD τ) bd) E (fills arg3 n c h)
      (fun r => iprop(⌜r = ⟨⟩⌝ ∗ Held harg0 harg1 harg2 harg3 harg4 cc X I O (fillsAt n c M) C)) := by
  induction n generalizing c M with
  | zero => exact ret_run 𝒱 cc bd E
  | succ n ih =>
    refine bind_run 𝒱 cc bd E (storeM_run harg0 harg1 harg2 harg3 harg4 𝒱 cc bd E X I O M C c (by omega) _) ?_
    exact ih (c + 1) (by omega) _

/-- Writing the result. -/
theorem storeO_run (v : IVec S8x512 32) :
   Held harg0 harg1 harg2 harg3 harg4 cc X I O M C
   ⊢ wp frame (wpE (defs₀ (F := F)) 𝒱 (cc : Thread nD τ) bd) E (storeO arg2 v)
      (fun r => iprop(⌜r = ⟨⟩⌝ ∗ Held harg0 harg1 harg2 harg3 harg4 cc X I v M C)) := by
  unfold storeO loadO
  iintro ⟨H0, H1, H2, H3, H4⟩
  sl_exec
  rw [writeO harg2]
  sl_step
  isplitl []
  · ipureintro; rfl
  isplitl [H0]; · iexact H0
  isplitl [H1]; · iexact H1
  isplitl [H2]; · iexact H2
  isplitl [H3]; · iexact H3
  iexact H4

/-- Reading the first indices. -/
theorem loadI_run :
   Held harg0 harg1 harg2 harg3 harg4 cc X I O M C
   ⊢ wp frame (wpE (defs₀ (F := F)) 𝒱 (cc : Thread nD τ) bd) E (loadI (F := F) arg1)
      (fun r => iprop(⌜r = I⌝ ∗ Held harg0 harg1 harg2 harg3 harg4 cc X I O M C)) := by
  unfold loadI
  iintro ⟨H0, H1, H2, H3, H4⟩
  sl_exec
  rw [readI harg1]
  sl_step
  isplitl []
  · ipureintro; rfl
  isplitl [H0]; · iexact H0
  isplitl [H1]; · iexact H1
  isplitl [H2]; · iexact H2
  isplitl [H3]; · iexact H3
  iexact H4

/-- Reading a chunk of the points. -/
theorem loadX_run (d : Fin 3) (c : ℕ) (hc : c < 32) :
   Held harg0 harg1 harg2 harg3 harg4 cc X I O M C
   ⊢ wp frame (wpE (defs₀ (F := F)) 𝒱 (cc : Thread nD τ) bd) E (loadX arg0 d.val c d.isLt hc)
      (fun r => iprop(⌜r = View.readAt (Elt F) arg0.view (Rect.unit (s := S3x32x8x512) ![d.val, c, 0, 0] S1x1x8x512.size (inbX d.val c d.isLt hc)).toLoadRect (harg0.unread X)⌝ ∗ Held harg0 harg1 harg2 harg3 harg4 cc X I O M C)) := by
  unfold loadX
  iintro ⟨H0, H1, H2, H3, H4⟩
  sl_exec
  sl_step
  isplitl []
  · ipureintro; rfl
  isplitl [H0]; · iexact H0
  isplitl [H1]; · iexact H1
  isplitl [H2]; · iexact H2
  isplitl [H3]; · iexact H3
  iexact H4

/-- The first centroid. -/
theorem firsts_run (i : IVec S8x1 32) (n c : ℕ) (h : c + n = 32) (a : Cen F) :
   Held harg0 harg1 harg2 harg3 harg4 cc X I O M C
   ⊢ wp frame (wpE (defs₀ (F := F)) 𝒱 (cc : Thread nD τ) bd) E (firsts arg0 i n c h a)
      (fun r => iprop(⌜r = firstsAt X i n c h a⌝ ∗ Held harg0 harg1 harg2 harg3 harg4 cc X I O M C)) := by
  induction n generalizing c a with
  | zero => exact ret_run 𝒱 cc bd E
  | succ n ih =>
    refine bind_run 𝒱 cc bd E (loadX_run harg0 harg1 harg2 harg3 harg4 𝒱 cc bd E X I O M C 0 c (by omega)) ?_
    refine bind_run 𝒱 cc bd E (loadX_run harg0 harg1 harg2 harg3 harg4 𝒱 cc bd E X I O M C 1 c (by omega)) ?_
    refine bind_run 𝒱 cc bd E (loadX_run harg0 harg1 harg2 harg3 harg4 𝒱 cc bd E X I O M C 2 c (by omega)) ?_
    rw [readX harg0 X _ 0 c (by omega) rfl, readX harg0 X _ 1 c (by omega) rfl, readX harg0 X _ 2 c (by omega) rfl]
    exact ih (c + 1) (by omega) _

/-- The whole body. -/
theorem body_run :
   Held harg0 harg1 harg2 harg3 harg4 cc X I O M C
   ⊢ wp frame (wpE (defs₀ (F := F)) 𝒱 (cc : Thread nD τ) bd) E (body (F := F) arg0 arg1 arg2 arg3 arg4)
      (fun _ => Held harg0 harg1 harg2 harg3 harg4 cc X I (bodyAt X I M C).O (bodyAt X I M C).M (bodyAt X I M C).C) := by
  unfold body prologue
  simp only [bind_assoc, pure_bind]
  refine bind_run 𝒱 cc bd E (fills_run harg0 harg1 harg2 harg3 harg4 𝒱 cc bd E X I O C 32 0 rfl M) ?_
  refine bind_run 𝒱 cc bd E (storeO_run harg0 harg1 harg2 harg3 harg4 𝒱 cc bd E X I O _ C _) ?_
  refine bind_run 𝒱 cc bd E (loadI_run harg0 harg1 harg2 harg3 harg4 𝒱 cc bd E X I _ _ C) ?_
  refine bind_run 𝒱 cc bd E (firsts_run harg0 harg1 harg2 harg3 harg4 𝒱 cc bd E X I _ _ C _ 32 0 rfl cen0) ?_
  rw [shapeCast_self]
  refine bind_run 𝒱 cc bd E (mainLoop_run harg0 harg1 harg2 harg3 harg4 𝒱 cc bd E X I (laneF (F := F)) laneI (startAt X I M C)) ?_
  refine (ret_run (F := F) 𝒱 cc bd E (v := PUnit.unit)).trans (wp_mono _ _ _ fun r => ?_)
  iintro ⟨-, H⟩
  iexact H

end
end Cert.KernelIdeal.Shape
-- ==== Proof.Fresh.lean ====
/-
What the body leaves in its result does not depend on what its scratch held before: the minima are all set to +∞
first, and the small results are all written before they are read.
-/
module
public import proofs.«01_k».proof.Proof.Runs
@[expose] public section
noncomputable section
namespace Cert.KernelIdeal.Shape
open Idealize.ShloMosaic Idealize.ShloMosaic.ValueIdx
open Cert.KernelIdeal Cert.KernelIdeal.Gen

variable {F : FTy → Type} [FloatOps F]

/-- Minima of +∞ everywhere. -/
def M₀ : Mins F := fun _ => lit 0x7F800000#32
/-- Small results of zero everywhere. -/
def C₀ : Cols F := fun _ => broadcast S8x1 (FloatOps.ofBits .f32 0x00000000#32)

/-- The result of the body, from the points and the first indices. -/
def outAt (X : S3x32x8x512.Idx → F .f32) (I : IVec S8x1 32) : IVec S8x512 32 := (bodyAt X I M₀ C₀).O

/-- Any array of minima is packed from chunks that are +∞ past the last. -/
theorem packM_surj₀ (Y : S32x8x512.Idx → F .f32) : ∃ M : Mins F, packM M = Y ∧ ∀ c, 32 ≤ c → M c = lit 0x7F800000#32 :=
  ⟨fun c => if h : c < 32 then fun j => Y (ix3 ⟨c, h⟩ (j 0) (j 1)) else lit 0x7F800000#32, by
    funext i
    unfold packM
    refine (congrFun (dif_pos (show (i 0).val < 32 from (i 0).isLt)) _).trans ?_
    congr 1; funext a; fin_cases a <;> rfl, fun c hc => dif_neg (by omega)⟩

/-- Any four small results are packed from columns that are zero past the last. -/
theorem packC_surj₀ (Y : S4x8x1.Idx → F .f32) : ∃ C : Cols F, packC C = Y ∧ ∀ c, 4 ≤ c → C c = C₀ c :=
  ⟨fun c => if h : c < 4 then fun j => Y (ix3 ⟨c, h⟩ (j 0) (j 1)) else C₀ c, by
    funext i
    unfold packC
    refine (congrFun (dif_pos (show (i 0).val < 4 from (i 0).isLt)) _).trans ?_
    congr 1; funext a; fin_cases a <;> rfl, fun c hc => dif_neg (by omega)⟩

/-- Setting the last `n` chunks from `c` on leaves +∞ there and the others alone. -/
theorem fillsAt_apply (n c : ℕ) (M : Mins F) (k : ℕ) :
    fillsAt n c M k = if c ≤ k ∧ k < c + n then lit 0x7F800000#32 else M k := by
  induction n generalizing c M with
  | zero => exact (if_neg (by omega)).symm
  | succ n ih =>
    unfold fillsAt
    rw [ih]
    by_cases hk : k = c
    · subst hk
      rw [if_neg (by omega), Function.update_self, if_pos (by omega)]
    · rw [Function.update_of_ne hk]
      congr 1
      apply propext; omega

/-- All the minima are +∞ after they are set. -/
theorem fillsAt_all (M : Mins F) (h : ∀ c, 32 ≤ c → M c = lit 0x7F800000#32) : fillsAt 32 0 M = M₀ := by
  funext k
  rw [fillsAt_apply]
  by_cases hk : k < 32
  · exact if_pos (by omega)
  · rw [if_neg (by omega)]; exact h k (by omega)

/-- Setting four columns forgets what they were. -/
theorem update_four (C : Cols F) (h : ∀ c, 4 ≤ c → C c = C₀ c) (a b c d : FVec F S8x1 .f32) :
    Function.update (Function.update (Function.update (Function.update C 0 a) 1 b) 2 c) 3 d
      = Function.update (Function.update (Function.update (Function.update C₀ 0 a) 1 b) 2 c) 3 d := by
  funext k
  by_cases h3 : k = 3
  · subst h3; rw [Function.update_self, Function.update_self]
  rw [Function.update_of_ne h3, Function.update_of_ne h3]
  by_cases h2 : k = 2
  · subst h2; rw [Function.update_self, Function.update_self]
  rw [Function.update_of_ne h2, Function.update_of_ne h2]
  by_cases h1 : k = 1
  · subst h1; rw [Function.update_self, Function.update_self]
  rw [Function.update_of_ne h1, Function.update_of_ne h1]
  by_cases h0 : k = 0
  · subst h0; rw [Function.update_self, Function.update_self]
  rw [Function.update_of_ne h0, Function.update_of_ne h0]
  exact h k (by omega)

/-- A step forgets the small results it finds. -/
theorem stepAt_fresh (X : S3x32x8x512.Idx → F .f32) (v1 : FVec F S8x512 .f32) (v3 : IVec S8x512 32) (t : BitVec 32)
    (O : IVec S8x512 32) (M : Mins F) (C : Cols F) (s : St F) (h : ∀ c, 4 ≤ c → C c = C₀ c) :
    stepAt X v1 v3 t ⟨O, M, C, s⟩ = stepAt X v1 v3 t ⟨O, M, C₀, s⟩ := by
  have hf : ∀ a : Acc F, fastCols C v1 a = fastCols C₀ v1 a := fun a => update_four C h _ _ _ _
  unfold stepAt endCols
  simp only [hf]

/-- So do the trips, from the first on. -/
theorem tripsAt_fresh (X : S3x32x8x512.Idx → F .f32) (v1 : FVec F S8x512 .f32) (v3 : IVec S8x512 32)
    (O : IVec S8x512 32) (M : Mins F) (C : Cols F) (s : St F) (h : ∀ c, 4 ≤ c → C c = C₀ c) (k : ℕ) :
    tripsAt X v1 v3 ⟨O, M, C, s⟩ (k + 1) = tripsAt X v1 v3 ⟨O, M, C₀, s⟩ (k + 1) := by
  induction k with
  | zero =>
    unfold tripsAt tripsAt tripAt
    rw [stepAt_fresh X v1 v3 _ O M C s h]
  | succ k ih =>
    rw [tripsAt, ih]
    conv_rhs => rw [tripsAt]

/-- The main loop has 256 trips. -/
theorem trips_eq : k0_t1_loop.trips = 256 := by decide

/-- The result does not depend on the scratch. -/
theorem outAt_fresh (X : S3x32x8x512.Idx → F .f32) (I : IVec S8x1 32) (M : Mins F) (C : Cols F)
    (hM : ∀ c, 32 ≤ c → M c = lit 0x7F800000#32) (hC : ∀ c, 4 ≤ c → C c = C₀ c) : (bodyAt X I M C).O = outAt X I := by
  unfold outAt bodyAt startAt
  rw [fillsAt_all M hM, fillsAt_all M₀ (fun _ _ => rfl), trips_eq, tripsAt_fresh X laneF laneI _ _ C _ hC 255]

end Cert.KernelIdeal.Shape
-- ==== Proof.Launch.lean ====
/-
The launch: the kernel's region, run once over whole arrays, leaves in its output array what the body computes from
the staged points and first indices.
-/
module
public import proofs.«01_k».proof.Proof.BodyEq
public import proofs.«01_k».proof.Proof.Fresh
public import proofs.«01_k».proof.Proof.Gen.KernelIdeal.Frame
public import Idealize.ShloMosaic.Lib.Pipeline.Frame
public import Idealize.ShloMosaic.Lib.Pipeline.FrameBody
public import Idealize.ShloMosaic.Lib.Claim
@[expose] public section
noncomputable section
namespace Cert.KernelIdeal.Shape
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄G" => MT nD τ sig Unit (Elt F) ℕ (UR sig nD τ) ℕ
variable (m : (ℓ : Loc nD τ sig) → Buf (Elt F) ℓ) (ρ : Dev nD → PrngReg)

/-- The body's triple over whole buffers: the output ends at `outAt` of the inputs, whatever the scratch held. -/
theorem kernel_run (c : Dev nD) (E : Set ℕ)
    (arg0 : Memref sig .tc .vmem S3x32x8x512 .f32) (harg0 : arg0.IsWhole) (arg1 : Memref sig .tc .vmem S8x1 .i32) (harg1 : arg1.IsWhole)
    (arg2 : Memref sig .tc .vmem S8x512 .i32) (harg2 : arg2.IsWhole) (arg3 : Memref sig .tc .vmem S32x8x512 .f32) (harg3 : arg3.IsWhole)
    (arg4 : Memref sig .tc .vmem S4x8x1 .f32) (harg4 : arg4.IsWhole)
    (X : S3x32x8x512.Idx → F .f32) (I : IVec S8x1 32) (K : PUnit → sProp 𝕄G) :
    iprop(owns (c : Thread nD τ) arg0 fullShare X ∗ owns (c : Thread nD τ) arg1 fullShare I
        ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg0 fullShare X ∗ owns (c : Thread nD τ) arg1 fullShare I ∗ owns (c : Thread nD τ) arg2 fullShare (outAt X I)
            ∗ (∃ d, owns (c : Thread nD τ) arg3 fullShare d) ∗ (∃ d, owns (c : Thread nD τ) arg4 fullShare d)) -∗ K ⟨⟩))
      ⊢ wp frame (wpE (defs₀ (F := F)) Variants.none (c : Thread nD τ) none) E (cc0__fps_body arg0 harg0 arg1 harg1 arg2 harg2 arg3 harg3 arg4 harg4) K := by
  rw [body_eq]
  unfold owns
  iintro ⟨⟨%f0, %h0, H0⟩, ⟨%f1, %h1, H1⟩, ⟨%O, %f2, %h2, H2⟩, ⟨%Y, %f3, %h3, H3⟩, ⟨%Z, %f4, %h4, H4⟩, Hk⟩
  obtain ⟨M, hM, hM'⟩ := packM_surj₀ Y
  obtain ⟨C, hC, hC'⟩ := packC_surj₀ Z
  have e0 := harg0.eq_unread h0
  have e1 := harg1.eq_unread h1
  have e2 := harg2.eq_unread h2
  have e3 := harg3.eq_unread (h3.trans hM.symm)
  have e4 := harg4.eq_unread (h4.trans hC.symm)
  subst e0 e1 e2 e3 e4
  have hrun := body_run harg0 harg1 harg2 harg3 harg4 Variants.none c none E X I O M C
  iapply (wp_wand_r _ _ _ (Q := fun _ => Held harg0 harg1 harg2 harg3 harg4 c X I (bodyAt X I M C).O (bodyAt X I M C).M (bodyAt X I M C).C))
  isplitl [H0 H1 H2 H3 H4]
  · iapply hrun
    isplitl [H0]; · iexact H0
    isplitl [H1]; · iexact H1
    isplitl [H2]; · iexact H2
    isplitl [H3]; · iexact H3
    iexact H4
  iintro %r ⟨H0, H1, H2, H3, H4⟩
  iapply Hk
  isplitl [H0]
  · iexists _; isplitr; swap; · iexact H0
    ipureintro; exact harg0.read_unread (Val := Elt F) X
  isplitl [H1]
  · iexists _; isplitr; swap; · iexact H1
    ipureintro; exact harg1.read_unread (Val := Elt F) I
  isplitl [H2]
  · iexists _; isplitr; swap; · iexact H2
    ipureintro; exact (harg2.read_unread (Val := Elt F) _).trans (outAt_fresh X I M C hM' hC')
  isplitl [H3]
  · iexists _, _; isplitr; swap; · iexact H3
    ipureintro; rfl
  iexists _, _; isplitr; swap; · iexact H4
  ipureintro; rfl

/-- The proof data: the arrays as the region finds them; the inputs' buffers keep their blocks, the output's ends at
    `outAt` of them; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt (iblk m c 0 t) (iblk m c 1 t)
  Φ _ := Pipeline.ΦA spec0 c
  q _ := fullShare
  owed _ := 0

/-- The arrays are what the region finds. -/
theorem A_eq (c : Dev nD) (w : Fin cfg0.W) : (dats m 0 c).A w = V m c (Pipeline.arrRef spec0 w) := by
  dsimp only [dats]
/-- The points' buffer keeps its block. -/
theorem after0 (c : Dev nD) (t : Fin cfg0.N) : (dats m 0 c).after 0 t = iblk m c 0 t := by dsimp only [dats]
/-- The first indices' buffer keeps its block. -/
theorem after1 (c : Dev nD) (t : Fin cfg0.N) : (dats m 0 c).after 1 t = iblk m c 1 t := by dsimp only [dats]
/-- The output's buffer ends at `outAt`. -/
theorem after2 (c : Dev nD) (t : Fin cfg0.N) : (dats m 0 c).after 2 t = outAt (iblk m c 0 t) (iblk m c 1 t) := by dsimp only [dats]
/-- The points' buffer holds its block. -/
theorem before0 (c : Dev nD) (t : Fin cfg0.N) (d) : (dats m 0 c).before 0 t d = iblk m c 0 t :=
  before0_0_of m (dats m 0 c) (A_eq m c 0) (after0 m c) t d
/-- The first indices' buffer holds its block. -/
theorem before1 (c : Dev nD) (t : Fin cfg0.N) (d) : (dats m 0 c).before 1 t d = iblk m c 1 t :=
  before0_1_of m (dats m 0 c) (A_eq m c 1) (after1 m c) t d

/-- What the body is called with, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The scratch and the generator's register, the scratch as memrefs owned at some contents. -/
theorem scratch_eq (c : Dev nD) : (Pipeline.ΦA spec0 c : sProp 𝕄G)
    = iprop(((∃ d, owns (c : Thread nD τ) (Memref.whole cc0_scratch0) fullShare d) ∗ (∃ d, owns (c : Thread nD τ) (Memref.whole cc0_scratch1) fullShare d))
        ∗ ∃ r, prngReg c r) := by
  unfold Pipeline.ΦA
  rw [scopedRest0_eq]
  simp only [owns_whole]

/-- The body at its one point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, show (dats m 0 c).Φ t.castSucc = Pipeline.ΦA spec0 c from rfl, scratch_eq]
  iintro ⟨⟨⟨HS, HT⟩, Hg⟩, Ho, ⟨%d0, H0⟩, ⟨%d1, H1⟩, ⟨%d2, H2⟩⟩
  iapply (kernel_run c Set.univ _ _ _ _ _ _ _ _ _ _ (iblk m c 0 t) (iblk m c 1 t) _)
  isplitl [H0]; · iexact H0
  isplitl [H1]; · iexact H1
  isplitl [H2]; · iexists _; iexact H2
  isplitl [HS]; · iexact HS
  isplitl [HT]; · iexact HT
  iintro ⟨H0, H1, H2, HS, HT⟩
  isplitl [HS HT Hg]
  · isplitl [HS HT]
    · isplitl [HS]; · iexact HS
      iexact HT
    iexact Hg
  isplitl [Ho]; · iexact Ho
  isplitl [H0]; · iexact H0
  isplitl [H1]; · iexact H1
  iexact H2

/-- The body table's row is the body. -/
theorem row_eq (t : Fin cfg0.N) : defs₀ (F := F) .tc cfg0.body (cfg0.bodyArgs t (cfg0.slots t)) = bodyAt0 t := by
  unfold defs₀; rw [Defs.onTc_tc]

/-- The body's obligation. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- Every execution terminates; the arrays end at what the proof data say and the counters at zero. -/
theorem run_quiet : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every execution terminates, the arguments end as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

end Cert.KernelIdeal.Shape
-- ==== Proof.Same.lean ====
/-
The kernel as printed and its reading over the extended reals are one program: the same text over any float values.
So what is proved of the one for any float values holds of the other.
-/
module
public import proofs.«01_k».proof.Proof.Launch
public import proofs.«01_k».proof.Proof.Gen.Kernel
public import proofs.«01_k».proof.Defs
@[expose] public section
noncomputable section
namespace Cert.Proof
open Idealize.ShloMosaic
set_option maxRecDepth 16384
variable (F : FTy → Type) [FloatOps F]

/-- The two bodies are one. -/
theorem body_same : @Cert.Kernel.cc0__fps_body F _ _ = @Cert.KernelIdeal.cc0__fps_body F _ _ := by
  with_unfolding_all rfl

/-- The two tables of bodies are one. -/
theorem table_same : Cert.Kernel.defs₀ (F := F) = Cert.KernelIdeal.defs₀ (F := F) := by
  unfold Kernel.defs₀ KernelIdeal.defs₀
  congr 1
  funext l x
  match l, x with
  | 0, (t, s) => exact congrFun (congrFun (congrFun (congrFun (congrFun (congrFun (congrFun (congrFun (congrFun (congrFun (body_same F) _) _) _) _) _) _) _) _) _) _
  | ⟨n + 1, h⟩, _ => exact absurd h (Nat.not_lt.2 (Nat.le_add_left _ _))

/-- So are the tables with the launches' own procedures. -/
theorem defs_same : Cert.Kernel.defs (F := F) = Cert.KernelIdeal.defs (F := F) := congrArg (Pipeline.defs _) (table_same F)

/-- The kernel as printed runs, leaves its arguments unchanged and its counters at zero. -/
theorem frame_Kernel : Cert.quiescent_Kernel := by
  intro m g _
  rw [defs_same]
  exact Cert.KernelIdeal.Shape.frame (F := Bits) m g

end Cert.Proof
-- ==== Proof.RefOps.lean ====
/-
The reference's host operations as lists, and @main as those lists around one counted loop.
-/
module
public import proofs.«01_k».proof.Proof.Gen.ReferenceIdeal
public import Idealize.ShloMosaic.Lib.Tactic
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Quiescent
public import Idealize.ShloMosaic.Lib.Claim
@[expose] public section
noncomputable section
namespace Cert.ReferenceIdeal.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Facts₀ Cert.ReferenceIdeal.Facts

variable {F : FTy → Type} [FloatOps F]

/-- What @main does before the loop: the constants, and the five carried values put in their buffers. -/
def preOps : List (HloOp τ sig (Elt F)) :=
  [ StableHlo.nullary main_cst (constant S_ .f32 0x7F800000#32),
    StableHlo.unary main_cst main_v0 (broadcastInDim S8x16384 ![] bcast_S_S8x16384 : (⟨S_, .f32⟩ : BufTy).Contents (Elt F) → (⟨S8x16384, .f32⟩ : BufTy).Contents (Elt F)),
    StableHlo.nullary main_c (constantI S_ 32 0#32),
    StableHlo.unary main_c main_v1 (broadcastInDim S512x8 ![] bcast_S_S512x8 : (⟨S_, .i32⟩ : BufTy).Contents (Elt F) → (⟨S512x8, .i32⟩ : BufTy).Contents (Elt F)),
    StableHlo.nullary main_c_0 (constantI S_ 32 0#32),
    StableHlo.unary main_arg0 main_v2_0 id,
    StableHlo.unary main_c_0 main_v2_1 id,
    StableHlo.unary main_v0 main_v2_2 id,
    StableHlo.unary main_arg1 main_v2_3 id,
    StableHlo.unary main_v1 main_v2_4 id ]

/-- The loop's condition: the step number compared with 512. -/
def condOps : List (HloOp τ sig (Elt F)) :=
  [ StableHlo.nullary main_while0c_c_5 (constantI S_ 32 512#32),
    StableHlo.binary main_v2_1 main_while0c_c_5 main_while0c_v4 (cmpi .slt : (⟨S_, .i32⟩ : BufTy).Contents (Elt F) → (⟨S_, .i32⟩ : BufTy).Contents (Elt F) → (⟨S_, .i1⟩ : BufTy).Contents (Elt F)) ]

/-- A step up to the distances: the last picked point gathered, its distance to every point, the minimum with the distances so far. -/
def distOps : List (HloOp τ sig (Elt F)) :=
  [ StableHlo.nullary main_while0b_v4 (iotaInDim S8 32 0),
    StableHlo.nullary main_while0b_c_5 (constantI S_ 32 0#32),
    StableHlo.unary main_while0b_c_5 main_while0b_v5 (broadcastInDim S8 ![] bcast_S_S8 : (⟨S_, .i32⟩ : BufTy).Contents (Elt F) → (⟨S8, .i32⟩ : BufTy).Contents (Elt F)),
    StableHlo.binary main_while0b_v4 main_while0b_v5 main_while0b_v6 (cmpi .slt : (⟨S8, .i32⟩ : BufTy).Contents (Elt F) → (⟨S8, .i32⟩ : BufTy).Contents (Elt F) → (⟨S8, .i1⟩ : BufTy).Contents (Elt F)),
    StableHlo.nullary main_while0b_c_6 (constantI S_ 32 8#32),
    StableHlo.unary main_while0b_c_6 main_while0b_v7 (broadcastInDim S8 ![] bcast_S_S8 : (⟨S_, .i32⟩ : BufTy).Contents (Elt F) → (⟨S8, .i32⟩ : BufTy).Contents (Elt F)),
    StableHlo.binary main_while0b_v4 main_while0b_v7 main_while0b_v8 (addi : (⟨S8, .i32⟩ : BufTy).Contents (Elt F) → (⟨S8, .i32⟩ : BufTy).Contents (Elt F) → (⟨S8, .i32⟩ : BufTy).Contents (Elt F)),
    StableHlo.ternary main_while0b_v6 main_while0b_v8 main_while0b_v4 main_while0b_v9 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.nullary main_while0b_c_7 (constantI S_ 32 0#32),
    StableHlo.unary main_while0b_c_7 main_while0b_v10 (broadcastInDim S8 ![] bcast_S_S8 : (⟨S_, .i32⟩ : BufTy).Contents (Elt F) → (⟨S8, .i32⟩ : BufTy).Contents (Elt F)),
    StableHlo.binary main_v2_3 main_while0b_v10 main_while0b_v11 (cmpi .slt : (⟨S8, .i32⟩ : BufTy).Contents (Elt F) → (⟨S8, .i32⟩ : BufTy).Contents (Elt F) → (⟨S8, .i1⟩ : BufTy).Contents (Elt F)),
    StableHlo.nullary main_while0b_c_8 (constantI S_ 32 16384#32),
    StableHlo.unary main_while0b_c_8 main_while0b_v12 (broadcastInDim S8 ![] bcast_S_S8 : (⟨S_, .i32⟩ : BufTy).Contents (Elt F) → (⟨S8, .i32⟩ : BufTy).Contents (Elt F)),
    StableHlo.binary main_v2_3 main_while0b_v12 main_while0b_v13 (addi : (⟨S8, .i32⟩ : BufTy).Contents (Elt F) → (⟨S8, .i32⟩ : BufTy).Contents (Elt F) → (⟨S8, .i32⟩ : BufTy).Contents (Elt F)),
    StableHlo.ternary main_while0b_v11 main_while0b_v13 main_v2_3 main_while0b_v14 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_while0b_v9 main_while0b_v15 (broadcastInDim S8x1 ![0] bcast_S8_S8x1_0 : (⟨S8, .i32⟩ : BufTy).Contents (Elt F) → (⟨S8x1, .i32⟩ : BufTy).Contents (Elt F)),
    StableHlo.unary main_while0b_v14 main_while0b_v16 (broadcastInDim S8x1 ![0] bcast_S8_S8x1_0 : (⟨S8, .i32⟩ : BufTy).Contents (Elt F) → (⟨S8x1, .i32⟩ : BufTy).Contents (Elt F)),
    StableHlo.binary main_while0b_v15 main_while0b_v16 main_while0b_v17 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
    StableHlo.binary main_v2_0 main_while0b_v17 main_while0b_v18 ((fun x i => Host.gather gather_S8x16384x3_S8x2_S8x3_1_01_n_n_01_1_113 x i) : (⟨S8x16384x3, .f32⟩ : BufTy).Contents (Elt F) → (⟨S8x2, .i32⟩ : BufTy).Contents (Elt F) → (⟨S8x3, .f32⟩ : BufTy).Contents (Elt F)),
    StableHlo.unary main_while0b_v18 main_while0b_v19 (broadcastInDim S8x1x3 ![0, 2] bcast_S8x3_S8x1x3_0_2 : (⟨S8x3, .f32⟩ : BufTy).Contents (Elt F) → (⟨S8x1x3, .f32⟩ : BufTy).Contents (Elt F)),
    StableHlo.unary main_while0b_v19 main_while0b_v20 (broadcastInDim S8x16384x3 ![0, 1, 2] bcast_S8x1x3_S8x16384x3_0_1_2 : (⟨S8x1x3, .f32⟩ : BufTy).Contents (Elt F) → (⟨S8x16384x3, .f32⟩ : BufTy).Contents (Elt F)),
    StableHlo.binary main_v2_0 main_while0b_v20 main_while0b_v21 (subf : (⟨S8x16384x3, .f32⟩ : BufTy).Contents (Elt F) → (⟨S8x16384x3, .f32⟩ : BufTy).Contents (Elt F) → (⟨S8x16384x3, .f32⟩ : BufTy).Contents (Elt F)),
    StableHlo.binary main_while0b_v21 main_while0b_v21 main_while0b_v22 (mulf : (⟨S8x16384x3, .f32⟩ : BufTy).Contents (Elt F) → (⟨S8x16384x3, .f32⟩ : BufTy).Contents (Elt F) → (⟨S8x16384x3, .f32⟩ : BufTy).Contents (Elt F)),
    StableHlo.nullary main_while0b_cst_9 (constant S_ .f32 0x00000000#32),
    StableHlo.binary main_while0b_v22 main_while0b_cst_9 main_while0b_v23 ((fun x v => Host.reduceAdd x v reducesTo_S8x16384x3_S8x16384_d2 h_S_) : (⟨S8x16384x3, .f32⟩ : BufTy).Contents (Elt F) → (⟨S_, .f32⟩ : BufTy).Contents (Elt F) → (⟨S8x16384, .f32⟩ : BufTy).Contents (Elt F)),
    StableHlo.unary main_while0b_v23 main_while0b_v24 (Host.sqrt : (⟨S8x16384, .f32⟩ : BufTy).Contents (Elt F) → (⟨S8x16384, .f32⟩ : BufTy).Contents (Elt F)),
    StableHlo.binary main_v2_2 main_while0b_v24 main_while0b_v25 (minimumf : (⟨S8x16384, .f32⟩ : BufTy).Contents (Elt F) → (⟨S8x16384, .f32⟩ : BufTy).Contents (Elt F) → (⟨S8x16384, .f32⟩ : BufTy).Contents (Elt F)) ]

/-- The call that picks the first index of the largest distance of each row. -/
def pickOps : List (HloOp τ sig (Elt F)) :=
  [ StableHlo.TRef.nullary main_while0b_call0.v0 (iotaInDim S8x16384 32 1),
    StableHlo.TRef.nullary main_while0b_call0.cst (constant S_ .f32 0xFF800000#32),
    StableHlo.TRef.nullary main_while0b_call0.c (constantI S_ 32 0#32),
    StableHlo.TRef.quaternary (.of main_while0b_v25 : StableHlo.TRef sig ⟨S8x16384, .f32⟩) main_while0b_call0.v0 main_while0b_call0.cst main_while0b_call0.c main_while0b_call0.v1_0 (fun x y u v j => (Host.argReduce reducer_argmax_f32_i32 x y u v reducesTo_S8x16384_S8_d1 h_S_ j).1),
    StableHlo.TRef.quaternary (.of main_while0b_v25 : StableHlo.TRef sig ⟨S8x16384, .f32⟩) main_while0b_call0.v0 main_while0b_call0.cst main_while0b_call0.c main_while0b_call0.v1_1 (fun x y u v j => (Host.argReduce reducer_argmax_f32_i32 x y u v reducesTo_S8x16384_S8_d1 h_S_ j).2) ]

/-- The call that writes the picked indices into the result's row of this step. -/
def recordOps : List (HloOp τ sig (Elt F)) :=
  [ StableHlo.TRef.unary (.of main_v2_3 : StableHlo.TRef sig ⟨S8, .i32⟩) main_while0b_call1.v0 (broadcastInDim S1x8 ![1] bcast_S8_S1x8_1),
    StableHlo.TRef.nullary main_while0b_call1.c (constantI S_ 32 0#32),
    StableHlo.TRef.binaryIndexed (.of main_v2_4 : StableHlo.TRef sig ⟨S512x8, .i32⟩) main_while0b_call1.v0 ![(.of main_v2_1 : StableHlo.TRef sig ⟨S_, .i32⟩), main_while0b_call1.c] main_while0b_call1.v1 (fun x u i => Host.dynamicUpdateSlice x u (fun k => (i k (Shape.Idx.first h_S_)).toInt) updateFits_S512x8_S1x8) ]

/-- The end of a step: the step number plus one, and the new values put in the carried buffers. -/
def carryOps : List (HloOp τ sig (Elt F)) :=
  [ StableHlo.nullary main_while0b_c_10 (constantI S_ 32 1#32),
    StableHlo.binary main_v2_1 main_while0b_c_10 main_while0b_v28 (addi : (⟨S_, .i32⟩ : BufTy).Contents (Elt F) → (⟨S_, .i32⟩ : BufTy).Contents (Elt F) → (⟨S_, .i32⟩ : BufTy).Contents (Elt F)),
    StableHlo.unary main_while0b_v28 main_v2_1 id,
    StableHlo.unary main_while0b_v25 main_v2_2 id,
    StableHlo.unary main_while0b_v26 main_v2_3 id,
    StableHlo.unary main_while0b_v27 main_v2_4 id ]

/-- What @main does after the loop: the result transposed. -/
def postOps : List (HloOp τ sig (Elt F)) :=
  [ StableHlo.unary main_v2_4 main_v3 ((transpose S8x512 [1, 0] · transposes_S512x8_S8x512_1_0) : (⟨S512x8, .i32⟩ : BufTy).Contents (Elt F) → (⟨S8x512, .i32⟩ : BufTy).Contents (Elt F)) ]

/-- None takes a new buffer. -/
theorem preOps_fresh : (preOps : List (HloOp τ sig (Elt F))).Forall fun op => op.fresh = ∅ :=
  ⟨rfl, rfl, rfl, rfl, rfl, rfl, rfl, rfl, rfl, rfl⟩
/-- Each touches buffers of the TensorCore only. -/
theorem preOps_sub : (preOps : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- None takes a new buffer. -/
theorem condOps_fresh : (condOps : List (HloOp τ sig (Elt F))).Forall fun op => op.fresh = ∅ :=
  ⟨rfl, rfl⟩
/-- Each touches buffers of the TensorCore only. -/
theorem condOps_sub : (condOps : List (HloOp τ sig (Elt F))).Forall fun op => op.bufs ⊆ StableHlo.tcRefs τ sig :=
  ⟨StableHlo.nullary_bufs_sub .., StableHlo.binary_bufs_sub ..⟩
/-- None takes a new buffer. -/
theorem distOps_fresh : (distOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
/-- Each touches buffers of the TensorCore only. -/
theorem distOps_sub : (distOps : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.binary_bufs_sub ..⟩
/-- None takes a new buffer. -/
theorem pickOps_fresh : (pickOps : List (HloOp τ sig (Elt F))).Forall fun op => op.fresh = ∅ :=
  ⟨rfl, rfl, rfl, rfl, rfl⟩
/-- Each touches buffers of the TensorCore only. -/
theorem pickOps_sub : (pickOps : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- None takes a new buffer. -/
theorem recordOps_fresh : (recordOps : List (HloOp τ sig (Elt F))).Forall fun op => op.fresh = ∅ :=
  ⟨rfl, rfl, rfl⟩
/-- Each touches buffers of the TensorCore only. -/
theorem recordOps_sub : (recordOps : List (HloOp τ sig (Elt F))).Forall fun op => op.bufs ⊆ StableHlo.tcRefs τ sig :=
  ⟨StableHlo.unary_bufs_sub .., StableHlo.nullary_bufs_sub .., StableHlo.binaryIndexed_bufs_sub ..⟩
/-- None takes a new buffer. -/
theorem carryOps_fresh : (carryOps : List (HloOp τ sig (Elt F))).Forall fun op => op.fresh = ∅ :=
  ⟨rfl, rfl, rfl, rfl, rfl, rfl⟩
/-- Each touches buffers of the TensorCore only. -/
theorem carryOps_sub : (carryOps : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- None takes a new buffer. -/
theorem postOps_fresh : (postOps : List (HloOp τ sig (Elt F))).Forall fun op => op.fresh = ∅ :=
  rfl
/-- Each touches buffers of the TensorCore only. -/
theorem postOps_sub : (postOps : List (HloOp τ sig (Elt F))).Forall fun op => op.bufs ⊆ StableHlo.tcRefs τ sig :=
  StableHlo.unary_bufs_sub ..

/-- One step of the loop: the distances, the pick, the record, the carried values. -/
abbrev bodyI : List (List (HloOp τ sig (Elt F))) := [distOps, pickOps, recordOps, carryOps]

/-- Every operation before the loop keeps to the TensorCore's buffers and takes no new one. -/
theorem pre_plain : StableHlo.Plain ([preOps] : List (List (HloOp τ sig (Elt F)))) := .cons preOps_sub .nil (List.forall_iff_forall_mem.mp preOps_fresh)
/-- The same of a step's operations. -/
theorem body_plain : StableHlo.Plain (bodyI : List (List (HloOp τ sig (Elt F)))) :=
  .cons distOps_sub (.cons pickOps_sub (.cons recordOps_sub (.cons carryOps_sub .nil (List.forall_iff_forall_mem.mp carryOps_fresh))
    (List.forall_iff_forall_mem.mp recordOps_fresh)) (List.forall_iff_forall_mem.mp pickOps_fresh)) (List.forall_iff_forall_mem.mp distOps_fresh)
/-- The same of the operation after the loop. -/
theorem post_plain : StableHlo.Plain ([postOps] : List (List (HloOp τ sig (Elt F)))) := .cons postOps_sub .nil (List.forall_iff_forall_mem.mp postOps_fresh)

/-- @main is its operations before the loop, the loop, and the operation after it. -/
theorem main_chain (c : Dev nD) : main (F := F) c
    = (Pipeline.chain [StableHlo.seq preOps, HostLoop.enter 0, StableHlo.seq postOps]
      : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- The loop's body is one step's operations. -/
theorem body_chain : main_while0_body (F := F)
    = (Pipeline.chain [StableHlo.seq distOps, StableHlo.seq pickOps, StableHlo.seq recordOps, StableHlo.seq carryOps]
      : Prog (TpuEff nD τ sig (Elt F) (HostLoop.Sig (Pipeline.Sig Λ₀ (Fin 0) fun p => (pcfgs (F := F) p).Adm) 1) .tc) PUnit) := by
  rewrite [StableHlo.chain_seq_cons, Pipeline.chain_cons, Pipeline.chain_cons, StableHlo.chain_seq_cons]
  chain_rfl
end Cert.ReferenceIdeal.Steps
-- ==== Proof.RefRun.lean ====
/-
The reference's run: what its five carried values are before each step of its loop, and what it ends at.
-/
module
public import proofs.«01_k».proof.Proof.RefOps
public import proofs.«01_k».proof.Defs
@[expose] public section
noncomputable section
namespace Cert.ReferenceIdeal.Steps
open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Facts₀ Cert.ReferenceIdeal.Facts

variable {F : FTy → Type} [FloatOps F]

/-- The start indices of a step's gather: the row, and the point last picked (a negative index counted from the end). -/
def startsOf (far : IVec S8 32) : IVec S8x2 32 :=
  concatenate S8x2 1
    [⟨S8x1, broadcastInDim S8x1 ![0] bcast_S8_S8x1_0
        (select (cmpi .slt (iotaInDim S8 32 0) (broadcastInDim S8 ![] bcast_S_S8 (constantI S_ 32 0#32)))
          (addi (iotaInDim S8 32 0) (broadcastInDim S8 ![] bcast_S_S8 (constantI S_ 32 8#32))) (iotaInDim S8 32 0))⟩,
     ⟨S8x1, broadcastInDim S8x1 ![0] bcast_S8_S8x1_0
        (select (cmpi .slt far (broadcastInDim S8 ![] bcast_S_S8 (constantI S_ 32 0#32)))
          (addi far (broadcastInDim S8 ![] bcast_S_S8 (constantI S_ 32 16384#32))) far)⟩]
    concatenates_S8x1_S8x1_S8x2_d1

/-- The points last picked, one per row. -/
def pickedOf (x : FVec F S8x16384x3 .f32) (far : IVec S8 32) : FVec F S8x3 .f32 :=
  Host.gather gather_S8x16384x3_S8x2_S8x3_1_01_n_n_01_1_113 x (startsOf far)

/-- The difference of every point of a row from the row's picked point. -/
def diffOf (x : FVec F S8x16384x3 .f32) (p : FVec F S8x3 .f32) : FVec F S8x16384x3 .f32 :=
  subf x (broadcastInDim S8x16384x3 ![0, 1, 2] bcast_S8x1x3_S8x16384x3_0_1_2 (broadcastInDim S8x1x3 ![0, 2] bcast_S8x3_S8x1x3_0_2 p))

/-- The distances after a step: the minimum of those before and of the distances to the points last picked. -/
def distsOf (x : FVec F S8x16384x3 .f32) (far : IVec S8 32) (D : FVec F S8x16384 .f32) : FVec F S8x16384 .f32 :=
  minimumf D (Host.sqrt (Host.reduceAdd (mulf (diffOf x (pickedOf x far)) (diffOf x (pickedOf x far))) (constant S_ .f32 0x00000000#32)
    reducesTo_S8x16384x3_S8x16384_d2 h_S_))

/-- The next points: the first index of the largest distance of each row. -/
def nextOf (D : FVec F S8x16384 .f32) : IVec S8 32 := fun j =>
  (Host.argReduce reducer_argmax_f32_i32 D (iotaInDim S8x16384 32 1) (constant S_ .f32 0xFF800000#32) (constantI S_ 32 0#32)
    reducesTo_S8x16384_S8_d1 h_S_ j).2

/-- The record with row `t` set to the points last picked. -/
def recordOf (O : IVec S512x8 32) (far : IVec S8 32) (t : IVec S_ 32) : IVec S512x8 32 :=
  Host.dynamicUpdateSlice O (broadcastInDim S1x8 ![1] bcast_S8_S1x8_1 far)
    (fun k => ((![t, constantI S_ 32 0#32] : Fin 2 → IVec S_ 32) k (Shape.Idx.first h_S_)).toInt) updateFits_S512x8_S1x8

section Reads
variable (V : Valuation τ sig (Elt F))

/-- A step leaves the points as they are. -/
theorem step_x : afterL bodyI V (Proc.devRef .tc main_v2_0) = V (Proc.devRef .tc main_v2_0) := by
  rw [afterL_eq_after_flatten]
  simp only [bodyI, distOps, pickOps, recordOps, carryOps, List.flatten_cons, List.flatten_nil, List.cons_append, List.nil_append]
  after_reads_simp
/-- A step counts itself. -/
theorem step_t : afterL bodyI V (Proc.devRef .tc main_v2_1) = addi (V (Proc.devRef .tc main_v2_1)) (constantI S_ 32 1#32) := by
  rw [afterL_eq_after_flatten]
  simp only [bodyI, distOps, pickOps, recordOps, carryOps, List.flatten_cons, List.flatten_nil, List.cons_append, List.nil_append]
  after_reads_simp
  rfl
/-- A step's distances. -/
theorem step_D : afterL bodyI V (Proc.devRef .tc main_v2_2)
    = distsOf (V (Proc.devRef .tc main_v2_0)) (V (Proc.devRef .tc main_v2_3)) (V (Proc.devRef .tc main_v2_2)) := by
  rw [afterL_eq_after_flatten]
  simp only [bodyI, distOps, pickOps, recordOps, carryOps, List.flatten_cons, List.flatten_nil, List.cons_append, List.nil_append]
  after_reads_simp
  rfl
/-- A step's picks. -/
theorem step_far : afterL bodyI V (Proc.devRef .tc main_v2_3)
    = nextOf (distsOf (V (Proc.devRef .tc main_v2_0)) (V (Proc.devRef .tc main_v2_3)) (V (Proc.devRef .tc main_v2_2))) := by
  rw [afterL_eq_after_flatten]
  simp only [bodyI, distOps, pickOps, recordOps, carryOps, List.flatten_cons, List.flatten_nil, List.cons_append, List.nil_append]
  after_reads_simp
  rfl
/-- What the call writes into the record. -/
theorem call_O : after recordOps V (Proc.devRef .tc main_while0b_v27)
    = recordOf (V (Proc.devRef .tc main_v2_4)) (V (Proc.devRef .tc main_v2_3)) (V (Proc.devRef .tc main_v2_1)) := by
  simp only [recordOps]
  after_reads_simp
  refine congrArg (fun f => Host.dynamicUpdateSlice _ _ f _) (funext fun k => ?_)
  fin_cases k
  · after_reads_simp
    rfl
  · after_reads_simp
    rfl
/-- A step's record. -/
theorem step_O : afterL bodyI V (Proc.devRef .tc main_v2_4)
    = recordOf (V (Proc.devRef .tc main_v2_4)) (V (Proc.devRef .tc main_v2_3)) (V (Proc.devRef .tc main_v2_1)) := by
  have h₁ : ∀ W : Valuation τ sig (Elt F), after carryOps W (Proc.devRef .tc main_v2_4) = W (Proc.devRef .tc main_while0b_v27) := fun W => by
    simp only [carryOps]
    after_reads_simp
    rfl
  have h₂ : ∀ r : Ref sig .tc, r = main_v2_4 ∨ r = main_v2_3 ∨ r = main_v2_1 →
      after pickOps (after distOps V) (Proc.devRef .tc r) = V (Proc.devRef .tc r) := by
    rintro r (rfl | rfl | rfl) <;>
    · simp only [pickOps, distOps]
      after_reads_simp
  simp only [bodyI, afterL_cons, afterL_nil]
  rw [h₁, call_O, h₂ _ (.inl rfl), h₂ _ (.inr (.inl rfl)), h₂ _ (.inr (.inr rfl))]
/-- A step leaves the first argument as it is. -/
theorem step_arg0 : afterL bodyI V (Proc.devRef .tc main_arg0) = V (Proc.devRef .tc main_arg0) := by
  rw [afterL_eq_after_flatten]
  simp only [bodyI, distOps, pickOps, recordOps, carryOps, List.flatten_cons, List.flatten_nil, List.cons_append, List.nil_append]
  after_reads_simp
/-- A step leaves the second argument as it is. -/
theorem step_arg1 : afterL bodyI V (Proc.devRef .tc main_arg1) = V (Proc.devRef .tc main_arg1) := by
  rw [afterL_eq_after_flatten]
  simp only [bodyI, distOps, pickOps, recordOps, carryOps, List.flatten_cons, List.flatten_nil, List.cons_append, List.nil_append]
  after_reads_simp
/-- After the loop the record is transposed. -/
theorem post_v3 : afterL [postOps] V (Proc.devRef .tc main_v3)
    = transpose S8x512 [1, 0] (V (Proc.devRef .tc main_v2_4)) transposes_S512x8_S8x512_1_0 := by
  simp only [afterL_cons, afterL_nil, postOps]
  after_reads_simp
/-- After the loop the first argument stays. -/
theorem post_arg0 : afterL [postOps] V (Proc.devRef .tc main_arg0) = V (Proc.devRef .tc main_arg0) := by
  simp only [afterL_cons, afterL_nil, postOps]
  after_reads_simp
/-- After the loop the second argument stays. -/
theorem post_arg1 : afterL [postOps] V (Proc.devRef .tc main_arg1) = V (Proc.devRef .tc main_arg1) := by
  simp only [afterL_cons, afterL_nil, postOps]
  after_reads_simp
end Reads

section Run
variable (m : (ℓ : Loc nD τ sig) → Buf (Elt F) ℓ)

/-- Every buffer before step `k`. -/
abbrev stepAt (k : ℕ) (c : Dev nD) : Valuation τ sig (Elt F) := atTrip condOps bodyI (entryContents [preOps] m) k c

/-- The condition writes none of the carried values. -/
theorem cond_keeps (V : Valuation τ sig (Elt F)) (r : Ref sig .tc) (h₀ : r ≠ main_while0c_c_5) (h₁ : r ≠ main_while0c_v4) :
    after condOps V (Proc.devRef .tc r) = V (Proc.devRef .tc r) := by
  unfold condOps
  rw [after_cons, after_cons, after_nil]
  exact (binary_result_ne (h := h₁) ..).trans (nullary_result_ne (h := h₀) ..)

/-- The distances and the picks before step `k`, from the points `x` and the first picks `i₀`. -/
def stateAt (x : FVec F S8x16384x3 .f32) (i₀ : IVec S8 32) : ℕ → FVec F S8x16384 .f32 × IVec S8 32
  | 0 => (broadcastInDim S8x16384 ![] bcast_S_S8x16384 (constant S_ .f32 0x7F800000#32), i₀)
  | k + 1 => (distsOf x (stateAt x i₀ k).2 (stateAt x i₀ k).1, nextOf (distsOf x (stateAt x i₀ k).2 (stateAt x i₀ k).1))

/-- One step of `stateAt`. -/
theorem stateAt_succ (x : FVec F S8x16384x3 .f32) (i₀ : IVec S8 32) (k : ℕ) : stateAt x i₀ (k + 1)
    = (distsOf x (stateAt x i₀ k).2 (stateAt x i₀ k).1, nextOf (distsOf x (stateAt x i₀ k).2 (stateAt x i₀ k).1)) := rfl

/-- The record before step `k`. -/
def recordAt (x : FVec F S8x16384x3 .f32) (i₀ : IVec S8 32) : ℕ → IVec S512x8 32
  | 0 => broadcastInDim S512x8 ![] bcast_S_S512x8 (constantI S_ 32 0#32)
  | k + 1 => recordOf (recordAt x i₀ k) (stateAt x i₀ k).2 (fun _ => Scf.iv 0#32 1#32 k)

/-- The points and the first picks that the program is given. -/
abbrev x₀ (c : Dev nD) : FVec F S8x16384x3 .f32 := m ((c.tc : Thread nD τ).loc main_arg0)
/-- The first picks that the program is given. -/
abbrev i₀ (c : Dev nD) : IVec S8 32 := m ((c.tc : Thread nD τ).loc main_arg1)

/-- What the carried buffers and the arguments hold before step `k`. -/
structure AtStep (k : ℕ) (c : Dev nD) (V : Valuation τ sig (Elt F)) : Prop where
  x : V (Proc.devRef .tc main_v2_0) = x₀ m c
  t : V (Proc.devRef .tc main_v2_1) = fun _ => Scf.iv 0#32 1#32 k
  D : V (Proc.devRef .tc main_v2_2) = (stateAt (x₀ m c) (i₀ m c) k).1
  far : V (Proc.devRef .tc main_v2_3) = (stateAt (x₀ m c) (i₀ m c) k).2
  O : V (Proc.devRef .tc main_v2_4) = recordAt (x₀ m c) (i₀ m c) k
  arg0 : V (Proc.devRef .tc main_arg0) = x₀ m c
  arg1 : V (Proc.devRef .tc main_arg1) = i₀ m c

/-- The condition keeps them. -/
theorem AtStep.cond {k : ℕ} {c : Dev nD} {V : Valuation τ sig (Elt F)} (h : AtStep m k c V) : AtStep m k c (after condOps V) := by
  constructor
  · rw [cond_keeps V _ (by decide) (by decide)]; exact h.x
  · rw [cond_keeps V _ (by decide) (by decide)]; exact h.t
  · rw [cond_keeps V _ (by decide) (by decide)]; exact h.D
  · rw [cond_keeps V _ (by decide) (by decide)]; exact h.far
  · rw [cond_keeps V _ (by decide) (by decide)]; exact h.O
  · rw [cond_keeps V _ (by decide) (by decide)]; exact h.arg0
  · rw [cond_keeps V _ (by decide) (by decide)]; exact h.arg1

/-- A step takes them one step on. -/
theorem AtStep.next {k : ℕ} {c : Dev nD} {V : Valuation τ sig (Elt F)} (h : AtStep m k c V) : AtStep m (k + 1) c (afterL bodyI V) := by
  constructor
  · rw [step_x]; exact h.x
  · rw [step_t, h.t, Scf.iv_succ]; rfl
  · rw [step_D, h.x, h.far, h.D, stateAt_succ]
  · rw [step_far, h.x, h.far, h.D, stateAt_succ]
  · rw [step_O, h.O, h.far, h.t]; rfl
  · rw [step_arg0]; exact h.arg0
  · rw [step_arg1]; exact h.arg1

/-- The loop is entered with them. -/
theorem at_entry (c : Dev nD) : AtStep m 0 c (entryContents [preOps] m c) := by
  constructor <;>
  · simp only [entryContents, afterL_cons, afterL_nil, preOps]
    after_reads_simp
    try rfl

/-- They hold before every step. -/
theorem at_step (c : Dev nD) : ∀ k, AtStep m k c (stepAt m k c)
  | 0 => at_entry m c
  | k + 1 => ((at_step c k).cond m).next m

-- the rule for a host operation is stated at any thread, and is met here at the TensorCore's
set_option backward.isDefEq.respectTransparency.types false in
/-- The condition holds before step `k` exactly when `k < 512`. -/
theorem cond_spec : CondSpec (pcfgs (F := F)) defs₀ loops (main_while0_cond (F := F)) condOps bodyI (entryContents [preOps] m) 512 := by
  intro k hk c bd
  have ht := (at_step m c k).t
  unfold main_while0_cond
  rw [wp_bind]
  iintro ⟨Hb, Hh⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (stepAt m k c) main_v2_1 HostLoop.idx0)
        (HloOp.result _ (stepAt m k c) main_while0c_c_5 HostLoop.idx0) = 1#1) (k < 512)
    rw [nullary_result_ne _ _ _ _ (by decide), nullary_result, ht]
    exact Scf.cmpi_slt_iv_ub_iff (lb := 0#32) (ub := 512#32) (st := 1#32) (by decide) (show k ≤ Scf.trips 0#32 512#32 1#32 from hk)
  isplitl [Hb]; · iexact Hb
  unfold condOps
  rw [after_cons, after_cons, after_nil]; iexact Hh

/-- The reference's result: the record after 512 steps, transposed. -/
def outOf (x : FVec F S8x16384x3 .f32) (i : IVec S8 32) : IVec S8x512 32 :=
  transpose S8x512 [1, 0] (recordAt x i 512) transposes_S512x8_S8x512_1_0

/-- The reference's run: its result is `outOf` of its arguments, which end unchanged, and every counter is back at zero. -/
theorem run (ρ : Dev nD → PrngReg) : θ_run (defs (F := F)) (onTc (τ := τ) (main (F := F))) ⟨m, fun _ => 0, ρ⟩ (fun r =>
    (∀ c : Dev nD, r.2.mem ((c.tc : Thread nD τ).loc main_v3) = outOf (x₀ m c) (i₀ m c)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine θ_run_mono (run_loop (pcfgs (F := F)) defs₀ loops main 0 main_while0_cond main_while0_body rfl [preOps] bodyI [postOps] condOps
    pre_plain body_plain post_plain (fun c => main_chain c) body_chain 512 m ρ (cond_spec m)) ?_
  intro r h
  refine ⟨fun c => ?_, sem_eq_zero_of_no_sems (by decide) r.2⟩
  have hk := (at_step m c 512).cond m
  exact ⟨(h c main_v3 rfl).trans ((post_v3 _).trans (congrArg (fun O => transpose S8x512 [1, 0] O transposes_S512x8_S8x512_1_0) hk.O)),
    (h c main_arg0 rfl).trans ((post_arg0 _).trans hk.arg0), (h c main_arg1 rfl).trans ((post_arg1 _).trans hk.arg1)⟩

end Run
end Cert.ReferenceIdeal.Steps

/-- The reference runs to its end, leaves its arguments as they were and every counter at zero. -/
theorem Cert.Proof.frame_ReferenceIdeal : Cert.quiescent_ReferenceIdeal := fun m g _ =>
  Idealize.ShloMosaic.θ_run_mono (Cert.ReferenceIdeal.Steps.run m g) fun r h => ⟨fun c => (h.1 c).2, h.2⟩
-- ==== Proof.First.lean ====
/-
The first index of a largest value: of a sequence, and of a sequence laid out in 512 lanes of 32.
-/
module
public import Mathlib.Data.EReal.Operations
@[expose] public section
namespace Cert.Fps

/-- Among the first `n` values of `f`, `p` is the first index of a largest one. -/
def IsFirst (f : ℕ → EReal) (n p : ℕ) : Prop := p < n ∧ (∀ q < n, f q ≤ f p) ∧ ∀ q < p, f q < f p

/-- There is only one such index. -/
theorem IsFirst.unique {f : ℕ → EReal} {n p p' : ℕ} (h : IsFirst f n p) (h' : IsFirst f n p') : p = p' := by
  rcases lt_trichotomy p p' with hlt | rfl | hlt
  · exact absurd (h'.2.2 p hlt) (not_lt.mpr (h.2.1 p' h'.1))
  · rfl
  · exact absurd (h.2.2 p' hlt) (not_lt.mpr (h'.2.1 p h.1))

/-- One value: its index. -/
theorem IsFirst.one (f : ℕ → EReal) : IsFirst f 1 0 :=
  ⟨Nat.one_pos, fun q hq => by rw [Nat.lt_one_iff.mp hq], fun q hq => absurd hq (Nat.not_lt_zero q)⟩

/-- One more value, and it is larger: its index. -/
theorem IsFirst.take {f : ℕ → EReal} {n p : ℕ} (h : IsFirst f n p) (hn : f p < f n) : IsFirst f (n + 1) n :=
  ⟨n.lt_succ_self, fun q hq => by
    rcases Nat.lt_succ_iff_lt_or_eq.mp hq with hq | rfl
    · exact (h.2.1 q hq).trans hn.le
    · exact le_rfl, fun q hq => (h.2.1 q hq).trans_lt hn⟩

/-- One more value, and it is no larger: the same index. -/
theorem IsFirst.keep {f : ℕ → EReal} {n p : ℕ} (h : IsFirst f n p) (hn : ¬ f p < f n) : IsFirst f (n + 1) p :=
  ⟨Nat.lt_succ_of_lt h.1, fun q hq => by
    rcases Nat.lt_succ_iff_lt_or_eq.mp hq with hq | rfl
    · exact h.2.1 q hq
    · exact not_lt.mp hn, h.2.2⟩

/-- The index depends on the values below `n` only. -/
theorem IsFirst.congr {f g : ℕ → EReal} {n p : ℕ} (h : IsFirst f n p) (hfg : ∀ q < n, f q = g q) : IsFirst g n p :=
  ⟨h.1, fun q hq => by rw [← hfg q hq, ← hfg p h.1]; exact h.2.1 q hq,
    fun q hq => by rw [← hfg q (hq.trans h.1), ← hfg p h.1]; exact h.2.2 q hq⟩

/-- A function that keeps the order of the values keeps the index. -/
theorem IsFirst.map {f : ℕ → EReal} {n p : ℕ} (h : IsFirst f n p) (s : EReal → EReal)
    (hs : ∀ a b, 0 ≤ a → a < b → s a < s b) (h0 : ∀ q < n, 0 ≤ f q) : IsFirst (fun q => s (f q)) n p :=
  ⟨h.1, fun q hq => by
    rcases (h.2.1 q hq).lt_or_eq with hlt | heq
    · exact (hs _ _ (h0 q hq) hlt).le
    · show s (f q) ≤ s (f p); rw [heq], fun q hq => hs _ _ (h0 q (hq.trans h.1)) (h.2.2 q hq)⟩

/-- Of lanes that each know their first largest value, one lane's is larger than every other's: it is the first of all. -/
theorem IsFirst.of_lane {f : ℕ → EReal} {K : ℕ → ℕ} (hK : ∀ l < 512, IsFirst (fun c => f (c * 512 + l)) 32 (K l))
    {L : ℕ} (hL : L < 512) (hmax : ∀ l < 512, l ≠ L → f (K l * 512 + l) < f (K L * 512 + L)) :
    IsFirst f 16384 (K L * 512 + L) := by
  have hk := (hK L hL).1
  have hlane : ∀ q < 16384, f q ≤ f (K (q % 512) * 512 + q % 512) := fun q hq => by
    have h := (hK (q % 512) (Nat.mod_lt _ (by decide))).2.1 (q / 512) (by omega)
    simpa only [Nat.div_add_mod' q 512] using h
  refine ⟨by omega, fun q hq => ?_, fun q hq => ?_⟩
  · refine (hlane q hq).trans ?_
    by_cases hl : q % 512 = L
    · rw [hl]
    · exact (hmax _ (Nat.mod_lt _ (by decide)) hl).le
  · by_cases hl : q % 512 = L
    · have h := (hK L hL).2.2 (q / 512) (by omega)
      have e : q / 512 * 512 + L = q := by omega
      simpa only [e] using h
    · exact (hlane q (by omega)).trans_lt (hmax _ (Nat.mod_lt _ (by decide)) hl)

/-- Of lanes that each know their first largest value, a lane's is as large as every other's and lies first among
    those as large: it is the first of all. -/
theorem IsFirst.of_least {f : ℕ → EReal} {K : ℕ → ℕ} (hK : ∀ l < 512, IsFirst (fun c => f (c * 512 + l)) 32 (K l))
    {L : ℕ} (hL : L < 512) (hmax : ∀ l < 512, f (K l * 512 + l) ≤ f (K L * 512 + L))
    (hmin : ∀ l < 512, f (K l * 512 + l) = f (K L * 512 + L) → K L * 512 + L ≤ K l * 512 + l) :
    IsFirst f 16384 (K L * 512 + L) := by
  have hk := (hK L hL).1
  have hlane : ∀ q < 16384, f q ≤ f (K (q % 512) * 512 + q % 512) := fun q hq => by
    have h := (hK (q % 512) (Nat.mod_lt _ (by decide))).2.1 (q / 512) (by omega)
    simpa only [Nat.div_add_mod' q 512] using h
  refine ⟨by omega, fun q hq => (hlane q hq).trans (hmax _ (Nat.mod_lt _ (by decide))), fun q hq => ?_⟩
  have hl : q % 512 < 512 := Nat.mod_lt _ (by decide)
  refine lt_of_le_of_ne ((hlane q (by omega)).trans (hmax _ hl)) fun heq => ?_
  have h1 : f (K (q % 512) * 512 + q % 512) = f (K L * 512 + L) :=
    le_antisymm (hmax _ hl) (heq ▸ hlane q (by omega))
  have h2 := hmin _ hl h1
  have h3 : q / 512 < K (q % 512) := by omega
  have h4 := (hK _ hl).2.2 (q / 512) h3
  simp only [Nat.div_add_mod' q 512, h1, heq] at h4
  exact lt_irrefl _ h4

end Cert.Fps
-- ==== Proof.Lanes.lean ====
module

public import proofs.«01_k».proof.Proof.Fresh
public import proofs.«01_k».proof.Proof.First
public import Idealize.ShloMosaic.Lib.Pointwise
public import Idealize.ShloMosaic.PureOps.Ideal.Laws
public import Idealize.ShloMosaic.Lib.IdealHost

/-! # The kernel's row operations over the extended reals

The largest, smallest and summed value of a row of 512 lanes, the selection of one lane, and the test that decides
between the fast and the slow choice of a point, each read at one row. -/

@[expose] public section

namespace Cert.KernelIdeal.Shape

open Idealize.ShloMosaic
open scoped BigOperators

/-- The word of minus infinity. -/
theorem bits_bot : Ideal.ofBits .f32 0xFF800000#32 = (⊥ : EReal) := by simp [Ideal.ofBits, Ideal.ieee]
/-- The word of plus infinity. -/
theorem bits_top : Ideal.ofBits .f32 0x7F800000#32 = (⊤ : EReal) := by simp [Ideal.ofBits, Ideal.ieee]
/-- The word of one and a half. -/
theorem bits_three_halves : Ideal.ofBits .f32 0x3FC00000#32 = ((3 / 2 : ℝ) : EReal) := by
  simp [Ideal.ofBits, Ideal.ieee, -EReal.coe_mul]; norm_num
/-- The word of two. -/
theorem bits_two : Ideal.ofBits .f32 0x40000000#32 = ((2 : ℝ) : EReal) := by
  simp [Ideal.ofBits, Ideal.ieee, -EReal.coe_mul]; norm_num
/-- The word of 512. -/
theorem bits_512 : Ideal.ofBits .f32 0x44000000#32 = ((512 : ℝ) : EReal) := by
  simp [Ideal.ofBits, Ideal.ieee, -EReal.coe_mul]; norm_num
/-- The word of 16384. -/
theorem bits_16384 : Ideal.ofBits .f32 0x46800000#32 = ((16384 : ℝ) : EReal) := by
  simp [Ideal.ofBits, Ideal.ieee, -EReal.coe_mul]; norm_num
/-- The factor of the nearness test, a number a little below one. -/
theorem bits_near : Ideal.ofBits .f32 0x3F7FFFF6#32 = ((16777206 / 16777216 : ℝ) : EReal) := by
  simp [Ideal.ofBits, Ideal.ieee, -EReal.coe_mul]; norm_num
/-- The word of a chunk's number. -/
theorem bits_chunk : ∀ c < 32, Ideal.ofBits .f32 (cbits c) = ((c : ℝ) : EReal) := by
  intro c hc
  interval_cases c <;> simp [cbits, Ideal.ofBits, Ideal.ieee, -EReal.coe_mul] <;> norm_num

/-- No lane of a row exceeds the row's largest value. -/
theorem le_rowMax (v : FVec Ideal S8x512 .f32) (b : Fin 8) (l : Fin 512) :
    v (ix2 b l) ≤ rowMax v (ix2 b 0) := by
  unfold rowMax
  pointwise
  rw [bits_bot]
  exact Finset.le_sup (f := fun l => v (ix2 b l)) (Finset.mem_univ l)

/-- Some lane of a row has the row's largest value. -/
theorem rowMax_attained (v : FVec Ideal S8x512 .f32) (b : Fin 8) :
    ∃ l : Fin 512, v (ix2 b l) = rowMax v (ix2 b 0) := by
  unfold rowMax
  pointwise
  rw [bits_bot]
  obtain ⟨l, -, h⟩ := Finset.exists_mem_eq_sup Finset.univ ⟨0, Finset.mem_univ _⟩ (fun l : Fin 512 => v (ix2 b l))
  exact ⟨l, h.symm⟩

/-- No lane of a row is below the row's smallest value. -/
theorem rowMin_le (v : FVec Ideal S8x512 .f32) (b : Fin 8) (l : Fin 512) :
    rowMin v (ix2 b 0) ≤ v (ix2 b l) := by
  unfold rowMin
  pointwise
  rw [bits_top]
  exact Finset.inf_le (f := fun l => v (ix2 b l)) (Finset.mem_univ l)

/-- Some lane of a row has the row's smallest value. -/
theorem rowMin_attained (v : FVec Ideal S8x512 .f32) (b : Fin 8) :
    ∃ l : Fin 512, v (ix2 b l) = rowMin v (ix2 b 0) := by
  unfold rowMin
  pointwise
  rw [bits_top]
  obtain ⟨l, -, h⟩ := Finset.exists_mem_eq_inf Finset.univ ⟨0, Finset.mem_univ _⟩ (fun l : Fin 512 => v (ix2 b l))
  exact ⟨l, h.symm⟩

/-- The row sum at a row. -/
theorem rowSum_apply (v : FVec Ideal S8x512 .f32) (b : Fin 8) :
    rowSum v (ix2 b 0) = ∑ l : Fin 512, v (ix2 b l) := by
  unfold rowSum
  pointwise

/-- The selected sum of a row is the value of the one lane selected. -/
theorem rowPick_apply (m : IVec S8x512 1) (v : FVec Ideal S8x512 .f32) (b : Fin 8) (L : Fin 512)
    (h : ∀ l, m (ix2 b l) = 1#1 ↔ l = L) : rowPick m v (ix2 b 0) = v (ix2 b L) := by
  unfold rowPick
  rw [rowSum_apply]
  pointwise
  rw [Finset.sum_eq_single L]
  · simp [Scalar.select, (h L).2 rfl]
  · intro l _ hl
    simp [Scalar.select, mt (h l).1 hl]
  · simp

/-- Where the slow choice is not asked for, every row's count is at most one and a half. -/
theorem slow_false (n : FVec Ideal S8x1 .f32) (h : slow n ≠ 1#1) (b : Fin 8) :
    n (ix2 b 0) ≤ ((3 / 2 : ℝ) : EReal) := by
  unfold slow at h
  pointwise at h
  rw [bits_bot, bits_three_halves] at h
  by_contra hn
  apply h
  have hlt : ((3 / 2 : ℝ) : EReal) < Finset.fold max (⊥ : EReal) (fun x : Fin 8 × Fin 1 => n (ix2 x.1 0)) Finset.univ :=
    lt_of_lt_of_le (not_le.1 hn)
      (Finset.le_sup (f := fun x : Fin 8 × Fin 1 => n (ix2 x.1 0)) (Finset.mem_univ (b, 0)))
  rw [show decide (((3 / 2 : ℝ) : EReal) < Finset.fold max (⊥ : EReal) (fun x : Fin 8 × Fin 1 => n (ix2 x.1 0)) Finset.univ) = true
    from decide_eq_true hlt]
  decide

/-- The mask of the lanes that have the row's largest value. -/
theorem atMax_apply (a : Acc Ideal) (b : Fin 8) (l : Fin 512) :
    atMax a (ix2 b l) = 1#1 ↔ a.m (ix2 b l) = rowMax a.m (ix2 b 0) := by
  unfold atMax
  pointwise
  by_cases h : a.m (ix2 b l) = rowMax a.m (ix2 b 0) <;> simp [h]

end Cert.KernelIdeal.Shape

end
-- ==== Proof.Root.lean ====
module

public import Idealize.ShloMosaic.PureOps.Ideal.Laws
public import Mathlib.Data.EReal.Operations

/-! # Squares and square roots of extended reals -/

@[expose] public section

namespace Cert.Fps

open Idealize.ShloMosaic

/-- A square is nonnegative. -/
theorem square_nonneg (x : EReal) : 0 ≤ x * x := by
  induction x with
  | bot => simp
  | top => simp
  | coe r => rw [← EReal.coe_mul]; exact_mod_cast mul_self_nonneg r

/-- The root of a nonnegative value is nonnegative. -/
theorem root_nonneg (x : EReal) (h : 0 ≤ x) : 0 ≤ Ideal.sqrt x := by
  induction x with
  | bot => simp at h
  | top => simp
  | coe r =>
    have h' : 0 ≤ r := by exact_mod_cast h
    rw [Ideal.sqrt_coe, if_neg (not_lt.2 h')]
    exact_mod_cast Real.sqrt_nonneg r

/-- The root keeps the order of nonnegative values. -/
theorem root_lt (x y : EReal) (h : 0 ≤ x) (hxy : x < y) : Ideal.sqrt x < Ideal.sqrt y := by
  induction x with
  | bot => simp at h
  | top => simp at hxy
  | coe r =>
    have hr : 0 ≤ r := by exact_mod_cast h
    induction y with
    | bot => simp at hxy
    | top =>
      rw [Ideal.sqrt_coe, if_neg (not_lt.2 hr), Ideal.sqrt_top]
      exact EReal.coe_lt_top _
    | coe s =>
      have hrs : r < s := by exact_mod_cast hxy
      rw [Ideal.sqrt_coe, if_neg (not_lt.2 hr), Ideal.sqrt_coe, if_neg (not_lt.2 (hr.trans hrs.le))]
      exact_mod_cast Real.sqrt_lt_sqrt hr hrs

/-- The root of the smaller of two nonnegative values is the smaller of their roots. -/
theorem root_min (x y : EReal) (hx : 0 ≤ x) (hy : 0 ≤ y) : Ideal.sqrt (min x y) = min (Ideal.sqrt x) (Ideal.sqrt y) := by
  rcases lt_trichotomy x y with h | h | h
  · rw [min_eq_left h.le, min_eq_left (root_lt x y hx h).le]
  · rw [h, min_self, min_self]
  · rw [min_eq_right h.le, min_eq_right (root_lt y x hy h).le]

end Cert.Fps

end
-- ==== Proof.LaneFold.lean ====
module

public import proofs.«01_k».proof.Proof.Lanes
public import proofs.«01_k».proof.Proof.Root

/-! # What a lane holds after the 32 chunks of a step

Point `p` of a row lies in chunk `p / 512` at lane `p % 512`. A step runs over the 32 chunks and keeps, for each lane,
the chunk of the largest minimum met, the first of equals, together with that point's coordinates. The exact search does
the same with the roots of the minima. -/

@[expose] public section

noncomputable section

namespace Cert.KernelIdeal.Shape

open Idealize.ShloMosaic Cert.Fps

/-- The lane of a position. -/
abbrev laneOf (p : ℕ) : Fin 512 := ⟨p % 512, Nat.mod_lt _ (by decide)⟩

/-- Coordinate `d` of point `p` of row `b`. -/
def pt (X : S3x32x8x512.Idx → EReal) (d : Fin 3) (b : Fin 8) (p : ℕ) : EReal :=
  X (ValueIdx.ix4 d ⟨p / 512 % 32, Nat.mod_lt _ (by decide)⟩ b (laneOf p))

/-- The running minimum of point `p` of row `b`. -/
def minOf (M : Mins Ideal) (b : Fin 8) (p : ℕ) : EReal := M (p / 512) (ix2 b (laneOf p))

/-- A chunk's coordinate at a lane is that of the point there. -/
theorem xs_apply (X : S3x32x8x512.Idx → EReal) (d : Fin 3) (c : ℕ) (hc : c < 32) (b : Fin 8) (l : Fin 512) :
    xs (F := Ideal) X d c hc (ix2 b l) = pt X d b (c * 512 + l.val) := by
  have h1 : (⟨c, hc⟩ : Fin 32) = ⟨(c * 512 + l.val) / 512 % 32, Nat.mod_lt _ (by decide)⟩ := Fin.ext (by
    show c = (c * 512 + l.val) / 512 % 32
    have := l.isLt; omega)
  have h2 : l = laneOf (c * 512 + l.val) := Fin.ext (by
    show l.val = (c * 512 + l.val) % 512
    have := l.isLt; omega)
  unfold pt
  rw [← h1, ← h2]
  rfl

/-- A chunk's minimum at a lane is that of the point there. -/
theorem minOf_apply (M : Mins Ideal) (b : Fin 8) (c : ℕ) (l : Fin 512) :
    minOf M b (c * 512 + l.val) = M c (ix2 b l) := by
  have h1 : (c * 512 + l.val) / 512 = c := by have := l.isLt; omega
  have h2 : laneOf (c * 512 + l.val) = l := Fin.ext (by
    show (c * 512 + l.val) % 512 = l.val
    have := l.isLt; omega)
  unfold minOf
  rw [h1, h2]

/-- The minima after a step. -/
def newM (X : S3x32x8x512.Idx → EReal) (cen : Cen Ideal) (M : Mins Ideal) : Mins Ideal := fun c =>
  if h : c < 32 then mdAt (F := Ideal) X M cen c h else M c

/-- The squared distance of point `p` of row `b` from the centroid. -/
def distSq (X : S3x32x8x512.Idx → EReal) (cen : Cen Ideal) (b : Fin 8) (p : ℕ) : EReal :=
  (pt X 0 b p - cen.x (ix2 b 0)) * (pt X 0 b p - cen.x (ix2 b 0))
    + (pt X 1 b p - cen.y (ix2 b 0)) * (pt X 1 b p - cen.y (ix2 b 0))
    + (pt X 2 b p - cen.z (ix2 b 0)) * (pt X 2 b p - cen.z (ix2 b 0))

/-- A squared distance is nonnegative. -/
theorem distSq_nonneg (X : S3x32x8x512.Idx → EReal) (cen : Cen Ideal) (b : Fin 8) (p : ℕ) : 0 ≤ distSq X cen b p :=
  add_nonneg (add_nonneg (square_nonneg _) (square_nonneg _)) (square_nonneg _)

/-- A point's new minimum: the old one or the squared distance, the smaller. -/
theorem mdAt_apply (X : S3x32x8x512.Idx → EReal) (M : Mins Ideal) (cen : Cen Ideal) (c : ℕ) (hc : c < 32) (b : Fin 8) (l : Fin 512) :
    mdAt (F := Ideal) X M cen c hc (ix2 b l) = min (M c (ix2 b l)) (distSq X cen b (c * 512 + l.val)) := by
  unfold mdAt sqd distSq
  pointwise
  simp only [xs_apply]

/-- The new minima, point by point. -/
theorem minOf_newM (X : S3x32x8x512.Idx → EReal) (cen : Cen Ideal) (M : Mins Ideal) (b : Fin 8) (p : ℕ) (hp : p < 16384) :
    minOf (newM X cen M) b p = min (minOf M b p) (distSq X cen b p) := by
  have h : p = p / 512 * 512 + (laneOf p).val := (Nat.div_add_mod' p 512).symm
  have hc : p / 512 < 32 := by omega
  unfold minOf newM
  rw [dif_pos hc, mdAt_apply, ← h]

/-- The minima written over the chunks from `c` on are the new ones. -/
theorem minsAt_eq (X : S3x32x8x512.Idx → EReal) (cen : Cen Ideal) (M₁ : Mins Ideal) (n c : ℕ) (h : c + n = 32) (M : Mins Ideal)
    (hM : ∀ k, M k = if k < c then newM X cen M₁ k else M₁ k) : minsAt (F := Ideal) X cen n c h M = newM X cen M₁ := by
  induction n generalizing c M with
  | zero =>
    funext k
    show M k = _
    rw [hM k]
    by_cases hk : k < c
    · rw [if_pos hk]
    · rw [if_neg hk]; unfold newM; rw [dif_neg (by omega)]
  | succ n ih =>
    refine ih (c + 1) (by omega) _ fun k => ?_
    by_cases hk : k = c
    · subst hk
      rw [Function.update_self, if_pos (Nat.lt_succ_self _)]
      unfold newM mdAt
      rw [dif_pos (by omega), hM k, if_neg (lt_irrefl _)]
    · rw [Function.update_of_ne hk, hM k]
      by_cases hk' : k < c
      · rw [if_pos hk', if_pos (by omega)]
      · rw [if_neg hk', if_neg (by omega)]

/-- What lane `l` of row `b` holds after `n` chunks: nothing yet, or the largest minimum, its chunk, and its point. -/
def AccHolds (X : S3x32x8x512.Idx → EReal) (N : Mins Ideal) (b : Fin 8) (l : Fin 512) (n : ℕ) (a : Acc Ideal) : Prop :=
  (n = 0 ∧ a.m (ix2 b l) = ⊥) ∨
  ∃ k, IsFirst (fun c => N c (ix2 b l)) n k ∧ a.m (ix2 b l) = N k (ix2 b l) ∧ a.i (ix2 b l) = ((k : ℝ) : EReal) ∧
    a.x (ix2 b l) = pt X 0 b (k * 512 + l.val) ∧ a.y (ix2 b l) = pt X 1 b (k * 512 + l.val) ∧ a.z (ix2 b l) = pt X 2 b (k * 512 + l.val)

/-- One more chunk. -/
theorem AccHolds.next {X : S3x32x8x512.Idx → EReal} {N : Mins Ideal} {b : Fin 8} {l : Fin 512} {n : ℕ} {a : Acc Ideal}
    (h : AccHolds X N b l n a) (hn : n < 32) (md : FVec Ideal S8x512 .f32) (hmd : md (ix2 b l) = N n (ix2 b l))
    (h0 : 0 ≤ N n (ix2 b l)) :
    AccHolds X N b l (n + 1) (accNext n a md (xs (F := Ideal) X 0 n hn) (xs (F := Ideal) X 1 n hn) (xs (F := Ideal) X 2 n hn)) := by
  right
  unfold accNext
  dsimp only
  pointwise
  simp only [hmd, xs_apply, bits_chunk n hn]
  rcases h with ⟨rfl, hm⟩ | ⟨k, hk, hm, hi, hx, hy, hz⟩
  · have hlt : a.m (ix2 b l) < N 0 (ix2 b l) := by rw [hm]; exact lt_of_lt_of_le EReal.bot_lt_zero h0
    simp only [if_pos hlt]
    exact ⟨0, IsFirst.one _, rfl, rfl, rfl, rfl, rfl⟩
  · by_cases hlt : a.m (ix2 b l) < N n (ix2 b l)
    · simp only [if_pos hlt]
      exact ⟨n, hk.take (by rw [hm] at hlt; exact hlt), rfl, rfl, rfl, rfl, rfl⟩
    · simp only [if_neg hlt]
      exact ⟨k, hk.keep (by rw [hm] at hlt; exact hlt), hm, hi, hx, hy, hz⟩

/-- The lane's values after all chunks. -/
theorem accsAt_holds (X : S3x32x8x512.Idx → EReal) (cen : Cen Ideal) (M₁ : Mins Ideal) (b : Fin 8) (l : Fin 512)
    (h0 : ∀ c < 32, 0 ≤ newM X cen M₁ c (ix2 b l)) (n c : ℕ) (h : c + n = 32) (M : Mins Ideal) (a : Acc Ideal)
    (hM : ∀ k, c ≤ k → M k = M₁ k) (ha : AccHolds X (newM X cen M₁) b l c a) :
    AccHolds X (newM X cen M₁) b l 32 (accsAt (F := Ideal) X cen n c h M a) := by
  induction n generalizing c M a with
  | zero => obtain rfl : c = 32 := h; exact ha
  | succ n ih =>
    have hc : c < 32 := by omega
    refine ih (c + 1) (by omega) _ _ (fun k hk => ?_) ?_
    · rw [Function.update_of_ne (by omega), hM k (by omega)]
    · refine ha.next hc _ ?_ (h0 c hc)
      unfold newM mdAt
      rw [dif_pos hc, hM c le_rfl]

/-- What lane `l` of row `b` holds before trip `n` of the exact search. -/
def CarHolds (X : S3x32x8x512.Idx → EReal) (N : Mins Ideal) (b : Fin 8) (l : Fin 512) (n : ℕ) (q : Car Ideal) : Prop :=
  (n = 0 ∧ q.1 (ix2 b l) = ⊥) ∨
  ∃ k, IsFirst (fun c => Ideal.sqrt (N c (ix2 b l))) n k ∧ q.1 (ix2 b l) = Ideal.sqrt (N k (ix2 b l)) ∧
    q.2.1 (ix2 b l) = (((k * 512 + l.val : ℕ) : ℝ) : EReal) ∧
    q.2.2.1 (ix2 b l) = pt X 0 b (k * 512 + l.val) ∧ q.2.2.2.1 (ix2 b l) = pt X 1 b (k * 512 + l.val) ∧ q.2.2.2.2 (ix2 b l) = pt X 2 b (k * 512 + l.val)

/-- The exact search has 32 trips. -/
theorem trips2_eq : k0_t2_loop.trips = 32 := by decide

/-- A small natural number as a 32-bit integer, read signed. -/
theorem toInt_small (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]

/-- The loop's counter as a number. -/
theorem iv_small (k : ℕ) (h : k < 2 ^ 31) : Scf.iv (0#32) 1#32 k = BitVec.ofNat 32 k := by
  induction k with
  | zero => rfl
  | succ k ih =>
    rw [Scf.iv_succ, ih (by omega)]
    apply BitVec.eq_of_toNat_eq
    simp [BitVec.toNat_add]

/-- The lanes' numbers as floats. -/
theorem laneF_apply (b : Fin 8) (l : Fin 512) : laneF (F := Ideal) (ix2 b l) = ((l.val : ℝ) : EReal) := by
  unfold laneF laneI
  pointwise
  show (((BitVec.ofNat 32 l.val).toInt : ℝ) : EReal) = _
  rw [toInt_small _ (by have := l.isLt; omega)]
  simp

/-- One more trip of the exact search. -/
theorem CarHolds.next {X : S3x32x8x512.Idx → EReal} {N : Mins Ideal} {b : Fin 8} {l : Fin 512} {n : ℕ} {q : Car Ideal}
    (h : CarHolds X N b l n q) (hn : n < 32) (h0 : 0 ≤ N n (ix2 b l)) :
    CarHolds X N b l (n + 1) (carNext laneF ⟨n, lt_of_lt_of_eq hn trips2_eq.symm⟩ q (N n) (xs (F := Ideal) X 0 n hn) (xs (F := Ideal) X 1 n hn) (xs (F := Ideal) X 2 n hn)) := by
  right
  have hflat : (((Scf.iv (0#32) 1#32 n).toInt : ℝ) : EReal) * Ideal.ofBits .f32 1140850688#32 + ((l.val : ℝ) : EReal)
      = (((n * 512 + l.val : ℕ) : ℝ) : EReal) := by
    rw [iv_small n (by omega), toInt_small n (by omega), bits_512, ← EReal.coe_mul, ← EReal.coe_add]
    push_cast
    rfl
  unfold carNext
  dsimp only
  pointwise
  simp only [xs_apply, laneF_apply, hflat]
  rcases h with ⟨rfl, hm⟩ | ⟨k, hk, hm, hi, hx, hy, hz⟩
  · have hlt : q.1 (ix2 b l) < Ideal.sqrt (N 0 (ix2 b l)) := by
      rw [hm]; exact lt_of_lt_of_le EReal.bot_lt_zero (root_nonneg _ h0)
    simp only [if_pos hlt]
    exact ⟨0, IsFirst.one _, rfl, rfl, rfl, rfl, rfl⟩
  · by_cases hlt : q.1 (ix2 b l) < Ideal.sqrt (N n (ix2 b l))
    · simp only [if_pos hlt]
      exact ⟨n, hk.take (by rw [hm] at hlt; exact hlt), rfl, rfl, rfl, rfl, rfl⟩
    · simp only [if_neg hlt]
      exact ⟨k, hk.keep (by rw [hm] at hlt; exact hlt), hm, hi, hx, hy, hz⟩

/-- The lane's values after the exact search. -/
theorem carAt_holds (X : S3x32x8x512.Idx → EReal) (N : Mins Ideal) (b : Fin 8) (l : Fin 512)
    (h0 : ∀ c < 32, 0 ≤ N c (ix2 b l)) (n : ℕ) (hn : n ≤ 32) : CarHolds X N b l n (carAt (F := Ideal) X N laneF n) := by
  induction n with
  | zero =>
    left
    refine ⟨rfl, ?_⟩
    show Ideal.ofBits .f32 0xFF800000#32 = ⊥
    exact bits_bot
  | succ n ih =>
    have hlt : n < 32 := hn
    have := (ih (by omega)).next hlt (h0 n hlt)
    rw [carAt_succ (F := Ideal) X N laneF ⟨n, lt_of_lt_of_eq hlt trips2_eq.symm⟩]
    exact this

end Cert.KernelIdeal.Shape

end

end
-- ==== Proof.Pick.lean ====
module

public import proofs.«01_k».proof.Proof.LaneFold

/-! # The point a step picks

Whichever way it is found, the point a step picks is the first of the points whose minimum has the largest root. -/

@[expose] public section

noncomputable section

namespace Cert.KernelIdeal.Shape

open Idealize.ShloMosaic Cert.Fps Cert.KernelIdeal.Gen
open scoped BigOperators

/-- The float of a position, turned into an integer, is the position. -/
theorem fptosi_pos (p : ℕ) (hp : p < 16384) : Ideal.fptosi 32 (((p : ℕ) : ℝ) : EReal) = BitVec.ofNat 32 p := by
  have h1 : (min ((2 ^ (32 - 1) : Nat) - 1 : Int) (p : Int)) = p := min_eq_right (by norm_num; omega)
  have h2 : max (-(2 ^ (32 - 1) : Nat) : Int) (p : Int) = p := max_eq_right (by norm_num)
  show BitVec.ofInt 32 (max _ (min _ (if (0 : ℝ) ≤ (p : ℝ) then ⌊(p : ℝ)⌋ else ⌈(p : ℝ)⌉))) = _
  rw [if_pos (Nat.cast_nonneg p), Int.floor_natCast, h1, h2, BitVec.ofInt_natCast]

/-- The state names the first point of row `b` whose minimum has the largest root, with its coordinates. -/
def PickHolds (X : S3x32x8x512.Idx → EReal) (N : Mins Ideal) (b : Fin 8) (C : Cols Ideal) : Prop :=
  ∃ p, IsFirst (fun p => Ideal.sqrt (minOf N b p)) 16384 p ∧ C 3 (ix2 b 0) = (((p : ℕ) : ℝ) : EReal) ∧
    C 0 (ix2 b 0) = pt X 0 b p ∧ C 1 (ix2 b 0) = pt X 1 b p ∧ C 2 (ix2 b 0) = pt X 2 b p

/-- Two lanes at the row's largest minimum count at least two. -/
theorem cnt_two (a : Acc Ideal) (b : Fin 8) (hpos : ∀ l, 0 ≤ a.m (ix2 b l)) (L L' : Fin 512) (hne : L ≠ L')
    (hL : a.m (ix2 b L) = rowMax a.m (ix2 b 0)) (hL' : a.m (ix2 b L') = rowMax a.m (ix2 b 0)) :
    (2 : EReal) ≤ cnt a (ix2 b 0) := by
  have hR : 0 ≤ rowMax a.m (ix2 b 0) := hL ▸ hpos L
  have hnear : rowMax a.m (ix2 b 0) * Ideal.ofBits .f32 0x3F7FFFF6#32 ≤ rowMax a.m (ix2 b 0) := by
    have h1 : Ideal.ofBits .f32 0x3F7FFFF6#32 ≤ (1 : EReal) := by
      rw [bits_near]
      exact_mod_cast (by norm_num : (16777206 / 16777216 : ℝ) ≤ 1)
    calc rowMax a.m (ix2 b 0) * Ideal.ofBits .f32 0x3F7FFFF6#32 ≤ rowMax a.m (ix2 b 0) * 1 := mul_le_mul_of_nonneg_left h1 hR
      _ = _ := mul_one _
  unfold cnt
  rw [rowSum_apply]
  pointwise
  rw [bits_two]
  set f : Fin 512 → EReal := fun x =>
    (if rowMax a.m (ix2 b 0) * Ideal.ofBits .f32 1065353206#32 ≤ a.m (ix2 b x) then 1 else 0) +
      (if a.m (ix2 b x) * Ideal.ofBits .f32 1065353206#32 ≤ a.s (ix2 b x) then ((2 : ℝ) : EReal) else 0) with hf
  have hs : ∀ x, (0 : EReal) ≤ if a.m (ix2 b x) * Ideal.ofBits .f32 1065353206#32 ≤ a.s (ix2 b x) then ((2 : ℝ) : EReal) else 0 := fun x => by
    split
    · exact_mod_cast (by norm_num : (0 : ℝ) ≤ 2)
    · exact le_rfl
  have hf0 : ∀ x, 0 ≤ f x := fun x => add_nonneg (by split <;> simp) (hs x)
  have hf1 : ∀ x, a.m (ix2 b x) = rowMax a.m (ix2 b 0) → 1 ≤ f x := fun x hx => by
    have : rowMax a.m (ix2 b 0) * Ideal.ofBits .f32 1065353206#32 ≤ a.m (ix2 b x) := by rw [hx]; exact hnear
    simp only [hf, if_pos this]
    exact le_add_of_nonneg_right (hs x)
  calc (2 : EReal) = 1 + 1 := by norm_num
    _ ≤ f L + f L' := add_le_add (hf1 L hL) (hf1 L' hL')
    _ = ∑ x ∈ {L, L'}, f x := (Finset.sum_pair hne).symm
    _ ≤ ∑ x, f x := Finset.sum_le_sum_of_subset_of_nonneg (Finset.subset_univ _) (fun x _ _ => hf0 x)

/-- The point by the lane of the largest minimum, where no exact search is asked for. -/
theorem fast_holds (X : S3x32x8x512.Idx → EReal) (N : Mins Ideal) (h0 : ∀ c < 32, ∀ b l, 0 ≤ N c (ix2 b l)) (a : Acc Ideal)
    (ha : ∀ b l, AccHolds X N b l 32 a) (hs : slow (cnt a) ≠ 1#1) (C : Cols Ideal) (b : Fin 8) :
    PickHolds X N b (fastCols C laneF a) := by
  have ha' : ∀ l, ∃ k, _ := fun l => (ha b l).resolve_left (fun h => absurd h.1 (by decide))
  choose K hK hm hi hx hy hz using ha'
  obtain ⟨L, hL⟩ := rowMax_attained a.m b
  have hpos : ∀ l, 0 ≤ a.m (ix2 b l) := fun l => by rw [hm l]; exact h0 _ (hK l).1 b l
  have hone : ∀ l, a.m (ix2 b l) = rowMax a.m (ix2 b 0) ↔ l = L := fun l => by
    constructor
    · intro hl
      by_contra hne
      have h := (cnt_two a b hpos l L hne hl hL).trans (slow_false _ hs b)
      exact absurd h (not_le.2 (show ((3 / 2 : ℝ) : EReal) < ((2 : ℝ) : EReal) from EReal.coe_lt_coe_iff.2 (by norm_num)))
    · rintro rfl; exact hL
  have hmask : ∀ l, atMax a (ix2 b l) = 1#1 ↔ l = L := fun l => (atMax_apply a b l).trans (hone l)
  have hKL := (hK L).1
  let K' : ℕ → ℕ := fun l => if h : l < 512 then K ⟨l, h⟩ else 0
  have hK' : ∀ l : Fin 512, K' l.val = K l := fun l => dif_pos l.isLt
  have hval : ∀ l : Fin 512, minOf N b (K' l.val * 512 + l.val) = a.m (ix2 b l) := fun l => by
    rw [hK', minOf_apply, hm l]
  have hfirst : IsFirst (minOf N b) 16384 (K' L.val * 512 + L.val) := by
    refine IsFirst.of_lane (fun l hl => ?_) L.isLt (fun l hl hne => ?_)
    · have := hK ⟨l, hl⟩
      rw [show K' l = K ⟨l, hl⟩ from hK' ⟨l, hl⟩]
      exact this.congr fun c _ => (minOf_apply N b c ⟨l, hl⟩).symm
    · have h1 := hval ⟨l, hl⟩
      have h2 := hval L
      rw [h2, show minOf N b (K' l * 512 + l) = _ from h1, hL]
      refine lt_of_le_of_ne (le_rowMax a.m b ⟨l, hl⟩) fun he => hne ?_
      exact congrArg Fin.val ((hone ⟨l, hl⟩).1 he)
  rw [hK'] at hfirst
  have hN0 : ∀ q < 16384, 0 ≤ minOf N b q := fun q hq => h0 _ (by omega) b _
  refine ⟨K L * 512 + L.val, hfirst.map Ideal.sqrt root_lt hN0, ?_, ?_, ?_, ?_⟩
  · show rowPick (atMax a) (flat laneF a) (ix2 b 0) = _
    rw [rowPick_apply _ _ b L hmask]
    unfold flat
    pointwise
    rw [hi L, bits_512, laneF_apply, ← EReal.coe_mul, ← EReal.coe_add]
    push_cast
    rfl
  · show rowPick (atMax a) a.x (ix2 b 0) = _
    rw [rowPick_apply _ _ b L hmask, hx L]
  · show rowPick (atMax a) a.y (ix2 b 0) = _
    rw [rowPick_apply _ _ b L hmask, hy L]
  · show rowPick (atMax a) a.z (ix2 b 0) = _
    rw [rowPick_apply _ _ b L hmask, hz L]

/-- The smallest position among the lanes of the largest root, as a row minimum. -/
def rootFlats (q : Car Ideal) : FVec Ideal S8x512 .f32 :=
  select (cmpf .oeq q.1 (broadcastTo S8x512 (rowMax q.1) broadcasts_S8x1_S8x512)) q.2.1 (lit 0x46800000#32)

/-- Its value at a lane. -/
theorem rootFlats_apply (q : Car Ideal) (b : Fin 8) (l : Fin 512) :
    rootFlats q (ix2 b l) = if q.1 (ix2 b l) = rowMax q.1 (ix2 b 0) then q.2.1 (ix2 b l) else ((16384 : ℝ) : EReal) := by
  unfold rootFlats
  pointwise
  rw [bits_16384]

/-- The lane that holds the smallest position. -/
theorem slowSel_apply (q : Car Ideal) (b : Fin 8) (l : Fin 512) :
    slowSel q (ix2 b l) = 1#1 ↔ q.2.1 (ix2 b l) = slowFlat q (ix2 b 0) := by
  unfold slowSel
  pointwise
  by_cases h : q.2.1 (ix2 b l) = slowFlat q (ix2 b 0) <;> simp [h]

/-- The point by the exact search. -/
theorem slow_holds (X : S3x32x8x512.Idx → EReal) (N : Mins Ideal) (b : Fin 8) (q : Car Ideal)
    (hq : ∀ l, CarHolds X N b l 32 q) (C : Cols Ideal) : PickHolds X N b (slowCols C q) := by
  have hq' : ∀ l, ∃ k, _ := fun l => (hq l).resolve_left (fun h => absurd h.1 (by decide))
  choose K hK hm hi hx hy hz using hq'
  have hflat : slowFlat q = rowMin (rootFlats q) := rfl
  obtain ⟨L₀, hL₀⟩ := rowMax_attained q.1 b
  obtain ⟨L, hL⟩ := rowMin_attained (rootFlats q) b
  have hle : ∀ l, rootFlats q (ix2 b L) ≤ rootFlats q (ix2 b l) := fun l => hL ▸ rowMin_le (rootFlats q) b l
  have hLmax : q.1 (ix2 b L) = rowMax q.1 (ix2 b 0) := by
    by_contra hne
    have h := hle L₀
    rw [rootFlats_apply, rootFlats_apply, if_neg hne, if_pos hL₀, hi L₀] at h
    have h' : (16384 : ℝ) ≤ ((K L₀ * 512 + L₀.val : ℕ) : ℝ) := by exact_mod_cast h
    have h'' : 16384 ≤ K L₀ * 512 + L₀.val := by exact_mod_cast h'
    have := (hK L₀).1
    have := L₀.isLt
    omega
  have hmin : ∀ l, q.1 (ix2 b l) = q.1 (ix2 b L) → K L * 512 + L.val ≤ K l * 512 + l.val := fun l hl => by
    have h := hle l
    rw [rootFlats_apply, rootFlats_apply, if_pos hLmax, if_pos (hl.trans hLmax), hi L, hi l] at h
    exact_mod_cast h
  have hfl : slowFlat q (ix2 b 0) = (((K L * 512 + L.val : ℕ) : ℝ) : EReal) := by
    rw [hflat, ← hL, rootFlats_apply, if_pos hLmax, hi L]
  have hmask : ∀ l, slowSel q (ix2 b l) = 1#1 ↔ l = L := fun l => by
    rw [slowSel_apply, hfl, hi l]
    constructor
    · intro h
      have h' : ((K l * 512 + l.val : ℕ) : ℝ) = ((K L * 512 + L.val : ℕ) : ℝ) := by exact_mod_cast h
      have h'' : K l * 512 + l.val = K L * 512 + L.val := by exact_mod_cast h'
      have := l.isLt
      have := L.isLt
      exact Fin.ext (by omega)
    · rintro rfl; rfl
  let K' : ℕ → ℕ := fun l => if h : l < 512 then K ⟨l, h⟩ else 0
  have hK' : ∀ l : Fin 512, K' l.val = K l := fun l => dif_pos l.isLt
  have hval : ∀ l : Fin 512, Ideal.sqrt (minOf N b (K' l.val * 512 + l.val)) = q.1 (ix2 b l) := fun l => by
    rw [hK', minOf_apply, hm l]
  have hfirst : IsFirst (fun p => Ideal.sqrt (minOf N b p)) 16384 (K' L.val * 512 + L.val) := by
    refine IsFirst.of_least (fun l hl => ?_) L.isLt (fun l hl => ?_) (fun l hl he => ?_)
    · have := hK ⟨l, hl⟩
      rw [show K' l = K ⟨l, hl⟩ from hK' ⟨l, hl⟩]
      exact this.congr fun c _ => congrArg Ideal.sqrt (minOf_apply N b c ⟨l, hl⟩).symm
    · show Ideal.sqrt (minOf N b (K' (⟨l, hl⟩ : Fin 512).val * 512 + (⟨l, hl⟩ : Fin 512).val)) ≤ Ideal.sqrt _
      rw [hval ⟨l, hl⟩, hval L, hLmax]
      exact le_rowMax q.1 b ⟨l, hl⟩
    · have he' : Ideal.sqrt (minOf N b (K' (⟨l, hl⟩ : Fin 512).val * 512 + (⟨l, hl⟩ : Fin 512).val)) = Ideal.sqrt _ := he
      rw [hval ⟨l, hl⟩, hval L] at he'
      have := hmin ⟨l, hl⟩ he'
      rw [hK' L, show K' l = K ⟨l, hl⟩ from hK' ⟨l, hl⟩]
      exact this
  rw [hK'] at hfirst
  refine ⟨K L * 512 + L.val, hfirst, hfl, ?_, ?_, ?_⟩
  · show rowPick (slowSel q) q.2.2.1 (ix2 b 0) = _
    rw [rowPick_apply _ _ b L hmask, hx L]
  · show rowPick (slowSel q) q.2.2.2.1 (ix2 b 0) = _
    rw [rowPick_apply _ _ b L hmask, hy L]
  · show rowPick (slowSel q) q.2.2.2.2 (ix2 b 0) = _
    rw [rowPick_apply _ _ b L hmask, hz L]

/-- The small results after a step name the point picked in every row. -/
theorem endCols_holds (X : S3x32x8x512.Idx → EReal) (cen : Cen Ideal) (M : Mins Ideal) (C : Cols Ideal)
    (hM : ∀ c < 32, ∀ b l, 0 ≤ M c (ix2 b l)) (a : Acc Ideal) (hacc : ∀ b l, AccHolds X (newM X cen M) b l 32 a) (b : Fin 8) :
    PickHolds X (newM X cen M) b (endCols (F := Ideal) X (newM X cen M) C laneF a) := by
  have h0 : ∀ c < 32, ∀ b l, 0 ≤ newM X cen M c (ix2 b l) := fun c hc b l => by
    unfold newM
    rw [dif_pos hc, mdAt_apply]
    exact le_min (hM c hc b l) (distSq_nonneg _ _ _ _)
  unfold endCols
  by_cases hs : slow (cnt a) = 1#1
  · rw [if_pos hs, trips2_eq]
    exact slow_holds X _ b _ (fun l => carAt_holds X _ b l (fun c hc => h0 c hc b l) 32 le_rfl) _
  · rw [if_neg hs]
    exact fast_holds X _ h0 a hacc hs _ b

/-- Before any chunk a lane holds nothing. -/
theorem acc0_holds (X : S3x32x8x512.Idx → EReal) (N : Mins Ideal) (b : Fin 8) (l : Fin 512) : AccHolds X N b l 0 acc0 :=
  .inl ⟨rfl, bits_bot⟩

/-- The running values after all chunks of a step. -/
theorem accs_holds (X : S3x32x8x512.Idx → EReal) (cen : Cen Ideal) (M : Mins Ideal)
    (hM : ∀ c < 32, ∀ b l, 0 ≤ M c (ix2 b l)) (b : Fin 8) (l : Fin 512) :
    AccHolds X (newM X cen M) b l 32 (accsAt (F := Ideal) X cen 32 0 (Nat.zero_add 32) M acc0) := by
  refine accsAt_holds X cen M b l (fun c hc => ?_) 32 0 _ M acc0 (fun _ _ => rfl) (acc0_holds X _ b l)
  unfold newM
  rw [dif_pos hc, mdAt_apply]
  exact le_min (hM c hc b l) (distSq_nonneg _ _ _ _)

/-- A step, with its minima named. -/
theorem stepAt_eq (X : S3x32x8x512.Idx → EReal) (t : BitVec 32) (A : All Ideal) : ∃ a C',
    ((∀ c < 32, ∀ b l, 0 ≤ A.M c (ix2 b l)) → ∀ b l, AccHolds X (newM X (cenOf A.s) A.M) b l 32 a) ∧
    C' = endCols (F := Ideal) X (newM X (cenOf A.s) A.M) A.C laneF a ∧
    stepAt (F := Ideal) X laneF laneI t A = ⟨recAt laneI t A.s.1 A.O, newM X (cenOf A.s) A.M, C', stOf C'⟩ := by
  have hmins : minsAt (F := Ideal) X (cenOf A.s) 32 0 (Nat.zero_add 32) A.M = newM X (cenOf A.s) A.M :=
    minsAt_eq X (cenOf A.s) A.M 32 0 _ A.M fun k => by rw [if_neg (Nat.not_lt_zero k)]
  refine ⟨_, _, fun h => accs_holds X (cenOf A.s) A.M h, rfl, ?_⟩
  unfold stepAt
  dsimp only
  rw [hmins]

/-- The minima, the result and the picked point after a step. -/
theorem stepAt_holds (X : S3x32x8x512.Idx → EReal) (t : BitVec 32) (A : All Ideal) (hM : ∀ c < 32, ∀ b l, 0 ≤ A.M c (ix2 b l)) :
    (stepAt (F := Ideal) X laneF laneI t A).M = newM X (cenOf A.s) A.M ∧
    (stepAt (F := Ideal) X laneF laneI t A).O = recAt laneI t A.s.1 A.O ∧
    ∀ b : Fin 8, ∃ p, IsFirst (fun p => Ideal.sqrt (minOf (newM X (cenOf A.s) A.M) b p)) 16384 p ∧
      (stepAt (F := Ideal) X laneF laneI t A).s.1 (ix2 b 0) = BitVec.ofNat 32 p ∧
      (stepAt (F := Ideal) X laneF laneI t A).s.2.1 (ix2 b 0) = pt X 0 b p ∧
      (stepAt (F := Ideal) X laneF laneI t A).s.2.2.1 (ix2 b 0) = pt X 1 b p ∧
      (stepAt (F := Ideal) X laneF laneI t A).s.2.2.2 (ix2 b 0) = pt X 2 b p := by
  obtain ⟨a, C', ha, hC, hst⟩ := stepAt_eq X t A
  rw [hst]
  refine ⟨rfl, rfl, fun b => ?_⟩
  obtain ⟨p, hp, hi, hx, hy, hz⟩ := endCols_holds X (cenOf A.s) A.M A.C hM a (ha hM) b
  rw [← hC] at hi hx hy hz
  refine ⟨p, hp, ?_, hx, hy, hz⟩
  show Ideal.fptosi 32 (C' 3 (ix2 b 0)) = _
  rw [hi, fptosi_pos p hp.1]

end Cert.KernelIdeal.Shape

end

end
-- ==== Proof.RefVals.lean ====
module

public import proofs.«01_k».proof.Proof.RefRun
public import proofs.«01_k».proof.Proof.Root
public import proofs.«01_k».proof.Proof.First
public import Idealize.ShloMosaic.Lib.Pointwise
public import Idealize.ShloMosaic.Lib.IdealHost

/-! # The reference's steps over the extended reals, element by element -/

@[expose] public section

noncomputable section

namespace Cert.ReferenceIdeal.Steps

open Idealize.ShloMosaic Cert.Fps Cert.ReferenceIdeal.Facts₀ Cert.ReferenceIdeal.Facts
open scoped BigOperators

/-- A position is nonnegative as a signed integer. -/
theorem toInt_pos (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]

/-- A nonnegative index is not counted from the end. -/
theorem wrap_pos (n : ℕ) (h : n < 2 ^ 31) (v : BitVec 32) :
    Scalar.select (IntOp.cmpi .slt (BitVec.ofNat 32 n) 0#32) v (BitVec.ofNat 32 n) = BitVec.ofNat 32 n := by
  have hlt : (BitVec.ofNat 32 n).slt 0#32 = false := by
    simp only [BitVec.slt, BitVec.toInt_zero, decide_eq_false_iff_not, Int.not_lt, toInt_pos n h]
    omega
  show (if BitVec.ofBool ((BitVec.ofNat 32 n).slt 0#32) = 1#1 then v else _) = _
  rw [hlt]
  rfl

/-- The start indices of row `b`: the row and its point. -/
theorem startsOf_apply (far : IVec S8 32) (b : Fin 8) (p : ℕ) (hp : p < 16384) (hf : far (ix1 b) = BitVec.ofNat 32 p) :
    startsOf far (ix2 b 0) = BitVec.ofNat 32 b.val ∧ startsOf far (ix2 b 1) = BitVec.ofNat 32 p := by
  unfold startsOf
  pointwise
  rw [hf, wrap_pos p (by omega), wrap_pos b.val (by have := b.isLt; omega)]
  exact ⟨rfl, rfl⟩

/-- The point picked in row `b`. -/
theorem pickedOf_apply (x : FVec Ideal S8x16384x3 .f32) (far : IVec S8 32) (b : Fin 8) (d : Fin 3) (p : ℕ) (hp : p < 16384)
    (hf : far (ix1 b) = BitVec.ofNat 32 p) : pickedOf x far (ix2 b d) = x (ix3 b ⟨p, hp⟩ d) := by
  obtain ⟨h0, h1⟩ := startsOf_apply far b p hp hf
  have hsi : ∀ c : Fin 2, (gather_S8x16384x3_S8x2_S8x3_1_01_n_n_01_1_113).siIdx (ix2 b d) c = (ix2 b c : S8x2.Idx) := by
    intro c
    funext a
    refine Fin.ext ?_
    match a with
    | ⟨0, _⟩ => rfl
    | ⟨1, _⟩ => rfl
  have s0 : (gather_S8x16384x3_S8x2_S8x3_1_01_n_n_01_1_113).start (ix2 b d) (startsOf far) 0 = b.val := by
    unfold GatherDims.start
    refine (dif_pos (show (0 : Fin 3) ∈ [(0 : Fin 3), 1] by decide)).trans ?_
    show min (startsOf far ((gather_S8x16384x3_S8x2_S8x3_1_01_n_n_01_1_113).siIdx (ix2 b d) (0 : Fin 2))).toInt.toNat (8 - 1) = b.val
    rw [hsi, h0, toInt_pos b.val (by have := b.isLt; omega)]
    have := b.isLt
    omega
  have s1 : (gather_S8x16384x3_S8x2_S8x3_1_01_n_n_01_1_113).start (ix2 b d) (startsOf far) 1 = p := by
    unfold GatherDims.start
    refine (dif_pos (show (1 : Fin 3) ∈ [(0 : Fin 3), 1] by decide)).trans ?_
    show min (startsOf far ((gather_S8x16384x3_S8x2_S8x3_1_01_n_n_01_1_113).siIdx (ix2 b d) (1 : Fin 2))).toInt.toNat (16384 - 1) = p
    rw [hsi, h1, toInt_pos p (by omega)]
    omega
  have s2 : (gather_S8x16384x3_S8x2_S8x3_1_01_n_n_01_1_113).start (ix2 b d) (startsOf far) 2 = 0 := by
    unfold GatherDims.start
    exact dif_neg (show ¬ (2 : Fin 3) ∈ [(0 : Fin 3), 1] by decide)
  have o0 : (gather_S8x16384x3_S8x2_S8x3_1_01_n_n_01_1_113).offCoord (ix2 b d) 0 = 0 :=
    GatherDims.offCoord_eq_zero _ _ _ fun h => ((GatherDims.mem_sKept _ _).mp h).1 (show (0 : Fin 3) ∈ [(0 : Fin 3), 1] by decide)
  have o1 : (gather_S8x16384x3_S8x2_S8x3_1_01_n_n_01_1_113).offCoord (ix2 b d) 1 = 0 :=
    GatherDims.offCoord_eq_zero _ _ _ fun h => ((GatherDims.mem_sKept _ _).mp h).1 (show (1 : Fin 3) ∈ [(0 : Fin 3), 1] by decide)
  have o2 : (gather_S8x16384x3_S8x2_S8x3_1_01_n_n_01_1_113).offCoord (ix2 b d) 2 = d.val := rfl
  unfold pickedOf Host.gather
  congr 1
  funext a
  refine Fin.ext ?_
  show (gather_S8x16384x3_S8x2_S8x3_1_01_n_n_01_1_113).start (ix2 b d) (startsOf far) a + (gather_S8x16384x3_S8x2_S8x3_1_01_n_n_01_1_113).batchCoord (ix2 b d) a + (gather_S8x16384x3_S8x2_S8x3_1_01_n_n_01_1_113).offCoord (ix2 b d) a = _
  rw [GatherDims.batchCoord_eq_zero _ _ _ List.not_mem_nil]
  match a with
  | ⟨0, _⟩ => exact congrArg₂ (fun u v => u + 0 + v) s0 o0
  | ⟨1, _⟩ => exact congrArg₂ (fun u v => u + 0 + v) s1 o1
  | ⟨2, _⟩ => exact (congrArg₂ (fun u v => u + 0 + v) s2 o2).trans (Nat.zero_add _)

/-- The distances after a step. -/
theorem distsOf_apply (x : FVec Ideal S8x16384x3 .f32) (far : IVec S8 32) (D : FVec Ideal S8x16384 .f32) (b : Fin 8) (q : Fin 16384)
    (p : ℕ) (hp : p < 16384) (hf : far (ix1 b) = BitVec.ofNat 32 p) :
    distsOf x far D (ix2 b q) = min (D (ix2 b q)) (Ideal.sqrt (
      (x (ix3 b q 0) - x (ix3 b ⟨p, hp⟩ 0)) * (x (ix3 b q 0) - x (ix3 b ⟨p, hp⟩ 0))
      + (x (ix3 b q 1) - x (ix3 b ⟨p, hp⟩ 1)) * (x (ix3 b q 1) - x (ix3 b ⟨p, hp⟩ 1))
      + (x (ix3 b q 2) - x (ix3 b ⟨p, hp⟩ 2)) * (x (ix3 b q 2) - x (ix3 b ⟨p, hp⟩ 2)))) := by
  have hd : ∀ d : Fin 3, diffOf x (pickedOf x far) (ix3 b q d) = x (ix3 b q d) - x (ix3 b ⟨p, hp⟩ d) := fun d => by
    unfold diffOf
    pointwise
    rw [pickedOf_apply x far b d p hp hf]
  unfold distsOf
  pointwise
  rw [Fin.sum_univ_three, hd 0, hd 1, hd 2]

/-- The record after step `k`. -/
theorem recordOf_apply (O : IVec S512x8 32) (far : IVec S8 32) (k : ℕ) (hk : k < 512) (b : Fin 8) (j : Fin 512) :
    recordOf O far (fun _ => BitVec.ofNat 32 k) (ix2 j b) = if j.val = k then far (ix1 b) else O (ix2 j b) := by
  have h0 : Host.clampedStart S512x8 S1x8 rfl
      (fun a => ((![fun _ => BitVec.ofNat 32 k, constantI S_ 32 0#32] : Fin 2 → IVec S_ 32) a (Shape.Idx.first h_S_)).toInt) 0 = k := by
    show (min (max ((BitVec.ofNat 32 k).toInt) 0) ((512 - 1 : Nat) : Int)).toNat = k
    rw [toInt_pos k (by omega)]
    omega
  have h1 : Host.clampedStart S512x8 S1x8 rfl
      (fun a => ((![fun _ => BitVec.ofNat 32 k, constantI S_ 32 0#32] : Fin 2 → IVec S_ 32) a (Shape.Idx.first h_S_)).toInt) 1 = 0 := by
    rfl
  unfold recordOf
  pointwise
  simp only [h0, h1]
  by_cases hj : j.val = k
  · rw [dif_pos (by omega), if_pos hj]
    rfl
  · rw [dif_neg (by omega), if_neg hj]

/-- The distance of point `q` of row `b`. -/
def distOf (D : FVec Ideal S8x16384 .f32) (b : Fin 8) (q : ℕ) : EReal := D (ix2 b ⟨q % 16384, Nat.mod_lt _ (by decide)⟩)

/-- One comparison of the search for the first largest. -/
theorem argmax_step (f : ℕ → EReal) (p q : ℕ) (hp : p < 16384) (hq : q < 16384) :
    reducer_argmax_f32_i32 (F := Ideal) (f p, BitVec.ofNat 32 p) (f q, BitVec.ofNat 32 q)
      = if f q < f p ∨ f p = f q ∧ p < q then (f p, BitVec.ofNat 32 p) else (f q, BitVec.ofNat 32 q) := by
  have hslt : (BitVec.ofNat 32 p).slt (BitVec.ofNat 32 q) = decide (p < q) := by
    simp only [BitVec.slt, toInt_pos p (by omega), toInt_pos q (by omega), Nat.cast_lt]
  unfold reducer_argmax_f32_i32
  simp only [Ideal.cmpf_def, Ideal.cmp, IntOp.cmpi, hslt]
  rcases lt_trichotomy (f q) (f p) with h | h | h
  · simp [h, h.ne', Scalar.select, IntOp.ori, IntOp.andi]
  · by_cases hpq : p < q <;> simp [h, hpq, Scalar.select, IntOp.ori, IntOp.andi]
  · simp [h, h.not_gt, h.ne, Scalar.select, IntOp.ori, IntOp.andi]

/-- The search over a list of points, from point `p`: a point of them that no other beats. -/
theorem argmax_fold (f : ℕ → EReal) (L : List ℕ) (hL : ∀ q ∈ L, q < 16384) (p : ℕ) (hp : p < 16384) :
    ∃ r, r < 16384 ∧ (L.map fun q => (f q, BitVec.ofNat 32 q)).foldl (reducer_argmax_f32_i32 (F := Ideal)) (f p, BitVec.ofNat 32 p)
        = (f r, BitVec.ofNat 32 r) ∧
      (f p < f r ∨ f p = f r ∧ r ≤ p) ∧ ∀ q ∈ L, f q < f r ∨ f q = f r ∧ r ≤ q := by
  induction L generalizing p with
  | nil => exact ⟨p, hp, rfl, .inr ⟨rfl, le_rfl⟩, fun q hq => absurd hq List.not_mem_nil⟩
  | cons q L ih =>
    have hq := hL q List.mem_cons_self
    have hL' : ∀ u ∈ L, u < 16384 := fun u hu => hL u (List.mem_cons_of_mem _ hu)
    rw [List.map_cons, List.foldl_cons, argmax_step f p q hp hq]
    have hbeats : ∀ {u v w : ℕ}, (f u < f v ∨ f u = f v ∧ v ≤ u) → (f v < f w ∨ f v = f w ∧ w ≤ v) → (f u < f w ∨ f u = f w ∧ w ≤ u) := by
      rintro u v w (h | ⟨h, h'⟩) (g | ⟨g, g'⟩)
      · exact .inl (h.trans g)
      · exact .inl (g ▸ h)
      · exact .inl (h ▸ g)
      · exact .inr ⟨h.trans g, g'.trans h'⟩
    by_cases h : f q < f p ∨ f p = f q ∧ p < q
    · rw [if_pos h]
      obtain ⟨r, hr, he, hpr, hall⟩ := ih hL' p hp
      refine ⟨r, hr, he, hpr, fun u hu => ?_⟩
      rcases List.mem_cons.1 hu with rfl | hu
      · exact hbeats (h.imp_right fun h => ⟨h.1.symm, h.2.le⟩) hpr
      · exact hall u hu
    · rw [if_neg h]
      obtain ⟨r, hr, he, hqr, hall⟩ := ih hL' q hq
      rw [not_or, not_lt, not_and, not_lt] at h
      refine ⟨r, hr, he, hbeats ?_ hqr, fun u hu => ?_⟩
      · rcases h.1.lt_or_eq with h' | h'
        · exact .inl h'
        · exact .inr ⟨h', h.2 h'⟩
      · rcases List.mem_cons.1 hu with rfl | hu
        · exact hqr
        · exact hall u hu

/-- The search from minus infinity over a list that has every point finds the first largest. -/
theorem argmax_first (f : ℕ → EReal) (h0 : ∀ q < 16384, 0 ≤ f q) (L : List ℕ) (hL : ∀ q ∈ L, q < 16384) (hall : ∀ q < 16384, q ∈ L) :
    ∃ r, IsFirst f 16384 r ∧
      ((L.map fun q => (f q, BitVec.ofNat 32 q)).foldl (reducer_argmax_f32_i32 (F := Ideal)) ((⊥ : EReal), 0#32)).2 = BitVec.ofNat 32 r := by
  cases L with
  | nil => exact absurd (hall 0 (by decide)) List.not_mem_nil
  | cons q L =>
    have hq := hL q List.mem_cons_self
    have hbot : (⊥ : EReal) < f q := lt_of_lt_of_le EReal.bot_lt_zero (h0 q hq)
    have hfirst : reducer_argmax_f32_i32 (F := Ideal) ((⊥ : EReal), 0#32) (f q, BitVec.ofNat 32 q) = (f q, BitVec.ofNat 32 q) := by
      unfold reducer_argmax_f32_i32
      simp [Ideal.cmpf_def, Ideal.cmp, hbot.ne, Scalar.select, IntOp.ori, IntOp.andi]
    obtain ⟨r, hr, he, hqr, hrest⟩ := argmax_fold f L (fun u hu => hL u (List.mem_cons_of_mem _ hu)) q hq
    have hbest : ∀ u < 16384, f u < f r ∨ f u = f r ∧ r ≤ u := fun u hu => by
      rcases List.mem_cons.1 (hall u hu) with rfl | hu'
      · exact hqr
      · exact hrest u hu'
    refine ⟨r, ⟨hr, fun u hu => (hbest u hu).elim le_of_lt fun h => h.1.le, fun u hu => ?_⟩, ?_⟩
    · rcases hbest u (hu.trans hr) with h | h
      · exact h
      · omega
    · rw [List.map_cons, List.foldl_cons, hfirst, he]

/-- The next point of row `b`: the first point of the largest distance. -/
theorem nextOf_apply (D : FVec Ideal S8x16384 .f32) (b : Fin 8) (h0 : ∀ q < 16384, 0 ≤ distOf D b q) :
    ∃ r, IsFirst (distOf D b) 16384 r ∧ nextOf D (ix1 b) = BitVec.ofNat 32 r := by
  let col : Fin S8x16384.numel → ℕ := fun n => (S8x16384.rowMajor.symm n 1).val
  have hdrop : ∀ i : S8x16384.Idx, reducesTo_S8x16384_S8_d1.drop i = (ix1 b : S8.Idx) ↔ (i 0).val = b.val := fun i => by
    have hv := Shape.ReducesTo.drop_apply_val_of_eq reducesTo_S8x16384_S8_d1 i 0 0
    constructor
    · intro h
      rw [← hv, h]
      rfl
    · intro h
      funext a
      obtain rfl : a = 0 := Subsingleton.elim _ _
      exact Fin.ext (hv.trans h)
  have hfib : Host.argReduceFiber D (iotaInDim S8x16384 32 1) reducesTo_S8x16384_S8_d1 (ix1 b)
      = (((List.finRange S8x16384.numel).filter fun n => reducesTo_S8x16384_S8_d1.drop (S8x16384.rowMajor.symm n) = (ix1 b : S8.Idx)).map col).map
        fun q => (distOf D b q, BitVec.ofNat 32 q) := by
    unfold Host.argReduceFiber
    rw [List.map_map]
    refine List.map_congr_left fun n hn => ?_
    have hb : (S8x16384.rowMajor.symm n 0).val = b.val := (hdrop _).1 (by simpa using (List.mem_filter.1 hn).2)
    refine Prod.ext ?_ rfl
    show D _ = D _
    congr 1
    funext a
    refine Fin.ext ?_
    match a with
    | ⟨0, _⟩ => exact hb
    | ⟨1, _⟩ => exact (Nat.mod_eq_of_lt (S8x16384.rowMajor.symm n 1).isLt).symm
  obtain ⟨r, hr, he⟩ := argmax_first (distOf D b) h0
    (((List.finRange S8x16384.numel).filter fun n => reducesTo_S8x16384_S8_d1.drop (S8x16384.rowMajor.symm n) = (ix1 b : S8.Idx)).map col)
    (fun q hq => by
      obtain ⟨n, -, rfl⟩ := List.mem_map.1 hq
      exact (S8x16384.rowMajor.symm n 1).isLt)
    (fun q hq => List.mem_map.2 ⟨S8x16384.rowMajor (ix2 b ⟨q, hq⟩), List.mem_filter.2 ⟨List.mem_finRange _, by
      rw [Equiv.symm_apply_apply]
      exact decide_eq_true ((hdrop _).2 rfl)⟩, by
      show (S8x16384.rowMajor.symm (S8x16384.rowMajor (ix2 b ⟨q, hq⟩)) 1).val = q
      rw [Equiv.symm_apply_apply]
      rfl⟩)
  refine ⟨r, hr, ?_⟩
  unfold nextOf
  rw [Ideal.argReduce_eq_reduce2, Host.reduce2_eq_foldl_fiber, hfib, ← he]
  have hi : Ideal.ofBits .f32 0xFF800000#32 = (⊥ : EReal) := by simp [Ideal.ofBits, Ideal.ieee]
  rw [← hi]
  rfl

end Cert.ReferenceIdeal.Steps

end

end
-- ==== Proof.Agree.lean ====
module

public import proofs.«01_k».proof.Proof.Pick
public import proofs.«01_k».proof.Proof.RefVals

/-! # The kernel's steps and the reference's agree

Step by step the kernel holds the squares of the distances that the reference holds, the same picked points, and the same
record. -/

@[expose] public section

noncomputable section

namespace Cert.KernelIdeal.Shape

open Idealize.ShloMosaic Cert.Fps Cert.KernelIdeal.Gen
open Cert.ReferenceIdeal.Steps (distOf distsOf nextOf recordOf stateAt stateAt_succ recordAt outOf distsOf_apply nextOf_apply recordOf_apply)
open scoped BigOperators

/-- The selected sum of a row is zero where no lane is selected. -/
theorem rowPick_none (m : IVec S8x512 1) (v : FVec Ideal S8x512 .f32) (b : Fin 8)
    (h : ∀ l, m (ix2 b l) ≠ 1#1) : rowPick m v (ix2 b 0) = 0 := by
  unfold rowPick
  rw [rowSum_apply]
  pointwise
  exact Finset.sum_eq_zero fun l _ => by simp [Scalar.select, h l]

/-- The lanes of a chunk that a first index names. -/
theorem hot_apply (c : ℕ) (hc : c < 32) (i : IVec S8x1 32) (b : Fin 8) (l : Fin 512) (p : ℕ) (hp : p < 16384)
    (hi : i (ix2 b 0) = BitVec.ofNat 32 p) : hot c i (ix2 b l) = 1#1 ↔ c * 512 + l.val = p := by
  have hl := l.isLt
  have hsum : IntOp.addi (BitVec.ofNat 32 l.val) (BitVec.ofNat 32 (512 * c)) = BitVec.ofNat 32 (c * 512 + l.val) := by
    apply BitVec.eq_of_toNat_eq
    simp only [IntOp.addi, BitVec.toNat_add, BitVec.toNat_ofNat]
    omega
  unfold hot laneI
  pointwise
  rw [hsum, hi]
  show BitVec.ofBool (BitVec.ofNat 32 (c * 512 + l.val) == BitVec.ofNat 32 p) = 1#1 ↔ _
  constructor
  · intro h
    by_contra hne
    have hb : (BitVec.ofNat 32 (c * 512 + l.val) == BitVec.ofNat 32 p) = false := by
      rw [beq_eq_false_iff_ne]
      intro he
      have := congrArg BitVec.toNat he
      simp only [BitVec.toNat_ofNat] at this
      omega
    rw [hb] at h
    exact absurd h (by decide)
  · intro h
    rw [h]
    simp

/-- A chunk's share of the first centroid: the point's coordinate if the point lies in the chunk, else zero. -/
theorem hotPick (X : S3x32x8x512.Idx → EReal) (d : Fin 3) (c : ℕ) (hc : c < 32) (i : IVec S8x1 32) (b : Fin 8) (p : ℕ)
    (hp : p < 16384) (hi : i (ix2 b 0) = BitVec.ofNat 32 p) :
    rowPick (hot c i) (xs (F := Ideal) X d c hc) (ix2 b 0) = if c = p / 512 then pt X d b p else 0 := by
  by_cases h : c = p / 512
  · rw [if_pos h, rowPick_apply _ _ b (laneOf p), xs_apply]
    · congr 1
      show c * 512 + p % 512 = p
      omega
    · intro l
      rw [hot_apply c hc i b l p hp hi]
      constructor
      · intro hl
        exact Fin.ext (by show l.val = p % 512; have := l.isLt; omega)
      · rintro rfl
        show c * 512 + p % 512 = p
        omega
  · rw [if_neg h]
    refine rowPick_none _ _ b fun l hl => h ?_
    rw [hot_apply c hc i b l p hp hi] at hl
    have := l.isLt
    omega

/-- The first centroid over the chunks from `c` on. -/
theorem firstsAt_apply (X : S3x32x8x512.Idx → EReal) (i : IVec S8x1 32) (b : Fin 8) (p : ℕ) (hp : p < 16384)
    (hi : i (ix2 b 0) = BitVec.ofNat 32 p) (n c : ℕ) (h : c + n = 32) (a : Cen Ideal) :
    (firstsAt (F := Ideal) X i n c h a).x (ix2 b 0) = a.x (ix2 b 0) + (if c ≤ p / 512 then pt X 0 b p else 0) ∧
    (firstsAt (F := Ideal) X i n c h a).y (ix2 b 0) = a.y (ix2 b 0) + (if c ≤ p / 512 then pt X 1 b p else 0) ∧
    (firstsAt (F := Ideal) X i n c h a).z (ix2 b 0) = a.z (ix2 b 0) + (if c ≤ p / 512 then pt X 2 b p else 0) := by
  induction n generalizing c a with
  | zero =>
    have hc : ¬ c ≤ p / 512 := by omega
    simp only [if_neg hc, add_zero]
    exact ⟨rfl, rfl, rfl⟩
  | succ n ih =>
    have hc : c < 32 := by omega
    have hsum : ∀ (u v : EReal), u + (if c = p / 512 then v else 0) + (if c + 1 ≤ p / 512 then v else 0)
        = u + (if c ≤ p / 512 then v else 0) := fun u v => by
      rcases lt_trichotomy c (p / 512) with h | h | h
      · rw [if_neg h.ne, if_pos (show c + 1 ≤ p / 512 from h), if_pos h.le, add_zero]
      · rw [if_pos h, if_neg (by omega), if_pos h.le, add_zero]
      · rw [if_neg h.ne', if_neg (by omega), if_neg (by omega), add_zero, add_zero]
    obtain ⟨hx, hy, hz⟩ := ih (c + 1) (by omega)
      ⟨addf a.x (rowPick (hot c i) (xs (F := Ideal) X 0 c hc)), addf a.y (rowPick (hot c i) (xs (F := Ideal) X 1 c hc)),
        addf a.z (rowPick (hot c i) (xs (F := Ideal) X 2 c hc))⟩
    have hadd : ∀ (u v : FVec Ideal S8x1 .f32), addf u v (ix2 b 0) = u (ix2 b 0) + v (ix2 b 0) := fun u v => rfl
    refine ⟨hx.trans ?_, hy.trans ?_, hz.trans ?_⟩
    · dsimp only
      rw [hadd, hotPick X 0 c hc i b p hp hi, hsum]
    · dsimp only
      rw [hadd, hotPick X 1 c hc i b p hp hi, hsum]
    · dsimp only
      rw [hadd, hotPick X 2 c hc i b p hp hi, hsum]

/-- The result with column `k` set, at an element. -/
theorem recAt_apply (k : ℕ) (hk : k < 512) (i : IVec S8x1 32) (O : IVec S8x512 32) (b : Fin 8) (j : Fin 512) :
    recAt laneI (BitVec.ofNat 32 k) i O (ix2 b j) = if j.val = k then i (ix2 b 0) else O (ix2 b j) := by
  unfold recAt laneI
  pointwise
  show (if BitVec.ofBool (BitVec.ofNat 32 j.val == BitVec.ofNat 32 k) = 1#1 then _ else _) = _
  by_cases h : j.val = k
  · rw [h]; simp
  · have hb : (BitVec.ofNat 32 j.val == BitVec.ofNat 32 k) = false := by
      rw [beq_eq_false_iff_ne]
      intro he
      have := congrArg BitVec.toNat he
      simp only [BitVec.toNat_ofNat] at this
      have := j.isLt
      omega
    rw [hb, if_neg h]
    rfl

/-- A pair of distances and what is chosen by them. -/
theorem chosen_eq {α β : Type} (f : α → β) {s : α × β} {a : α} (h : s = (a, f a)) : s.2 = f s.1 := by
  subst h; rfl

/-- The point chosen at a step is the farthest by the distances that step leaves. -/
theorem stateAt_far {F : FTy → Type} [FloatOps F] (x : FVec F S8x16384x3 .f32) (i₀ : IVec S8 32) (k : ℕ) :
    (stateAt x i₀ (k + 1)).2 = nextOf (stateAt x i₀ (k + 1)).1 :=
  chosen_eq nextOf (stateAt_succ x i₀ k)

/-- What the kernel holds before step `k` agrees with what the reference holds there. -/
structure Agrees (X : S3x32x8x512.Idx → EReal) (x : FVec Ideal S8x16384x3 .f32) (i₀ : IVec S8 32) (k : ℕ) (A : All Ideal) : Prop where
  nonneg : ∀ c < 32, ∀ b l, 0 ≤ A.M c (ix2 b l)
  dist : ∀ b q, q < 16384 → distOf (stateAt x i₀ k).1 b q = Ideal.sqrt (minOf A.M b q)
  far : ∀ b : Fin 8, ∃ p, p < 16384 ∧ A.s.1 (ix2 b 0) = BitVec.ofNat 32 p ∧ (stateAt x i₀ k).2 (ix1 b) = BitVec.ofNat 32 p ∧
    A.s.2.1 (ix2 b 0) = pt X 0 b p ∧ A.s.2.2.1 (ix2 b 0) = pt X 1 b p ∧ A.s.2.2.2 (ix2 b 0) = pt X 2 b p
  record : ∀ (b : Fin 8) (j : Fin 512), A.O (ix2 b j) = recordAt x i₀ k (ix2 j b)

/-- A step keeps the agreement. -/
theorem Agrees.next {X : S3x32x8x512.Idx → EReal} {x : FVec Ideal S8x16384x3 .f32} {i₀ : IVec S8 32}
    (hX : ∀ (d : Fin 3) (b : Fin 8) (p : ℕ) (hp : p < 16384), pt X d b p = x (ix3 b ⟨p, hp⟩ d)) {k : ℕ} (hk : k < 512) {A : All Ideal}
    (h : Agrees X x i₀ k A) : Agrees X x i₀ (k + 1) (stepAt (F := Ideal) X laneF laneI (BitVec.ofNat 32 k) A) := by
  obtain ⟨hM, hO, hs⟩ := stepAt_holds X (BitVec.ofNat 32 k) A h.nonneg
  have hN : ∀ c < 32, ∀ b l, 0 ≤ newM X (cenOf A.s) A.M c (ix2 b l) := fun c hc b l => by
    unfold newM
    rw [dif_pos hc, mdAt_apply]
    exact le_min (h.nonneg c hc b l) (distSq_nonneg _ _ _ _)
  have hdist : ∀ b q, q < 16384 → distOf (stateAt x i₀ (k + 1)).1 b q = Ideal.sqrt (minOf (newM X (cenOf A.s) A.M) b q) := fun b q hq => by
    obtain ⟨p, hp, hi, hf, hx, hy, hz⟩ := h.far b
    have hd := h.dist b q hq
    have hq' : (⟨q % 16384, Nat.mod_lt _ (by decide)⟩ : Fin 16384) = ⟨q, hq⟩ := Fin.ext (Nat.mod_eq_of_lt hq)
    rw [minOf_newM X _ _ b q hq, root_min _ _ (show 0 ≤ minOf A.M b q from h.nonneg _ (by omega) b _) (distSq_nonneg _ _ _ _), ← hd, stateAt_succ]
    unfold distOf
    dsimp only
    rw [distsOf_apply x _ _ b _ p hp hf, hq']
    unfold distSq
    simp only [hx, hy, hz, hX _ b p hp, hX _ b q hq]
  refine ⟨?_, ?_, fun b => ?_, fun b j => ?_⟩
  · rw [hM]; exact hN
  · rw [hM]; exact hdist
  · obtain ⟨p, hp, hi, hx, hy, hz⟩ := hs b
    have hdk : ∀ q < 16384, 0 ≤ distOf (stateAt x i₀ (k + 1)).1 b q := fun q hq => by
      rw [hdist b q hq]
      exact root_nonneg _ (hN _ (by omega) b _)
    obtain ⟨r, hr, hn⟩ := nextOf_apply (stateAt x i₀ (k + 1)).1 b hdk
    have hpr : r = p := hr.unique (hp.congr fun q hq => (hdist b q hq).symm)
    refine ⟨p, hp.1, hi, ?_, hx, hy, hz⟩
    rw [stateAt_far, ← hpr]
    exact hn
  · obtain ⟨p, hp, hi, hf, -⟩ := h.far b
    rw [hO, recAt_apply k hk]
    show _ = recordOf (recordAt x i₀ k) (stateAt x i₀ k).2 (fun _ => Scf.iv 0#32 1#32 k) (ix2 j b)
    rw [iv_small k (by omega), recordOf_apply _ _ k hk b j, hi, hf, h.record b j]

/-- The two steps of a trip keep the agreement. -/
theorem Agrees.trips {X : S3x32x8x512.Idx → EReal} {x : FVec Ideal S8x16384x3 .f32} {i₀ : IVec S8 32}
    (hX : ∀ (d : Fin 3) (b : Fin 8) (p : ℕ) (hp : p < 16384), pt X d b p = x (ix3 b ⟨p, hp⟩ d)) {A : All Ideal}
    (h : Agrees X x i₀ 0 A) (k : ℕ) (hk : k ≤ 256) : Agrees X x i₀ (2 * k) (tripsAt (F := Ideal) X laneF laneI A k) := by
  induction k with
  | zero => exact h
  | succ k ih =>
    have h0 : Scalar.muli 2#32 (Scf.iv (0#32) 1#32 k) = BitVec.ofNat 32 (2 * k) := by
      rw [iv_small k (by omega)]
      apply BitVec.eq_of_toNat_eq
      simp only [Scalar.muli, IntOp.muli, BitVec.toNat_mul, BitVec.toNat_ofNat]
      omega
    have h1 : Scalar.addi (BitVec.ofNat 32 (2 * k)) 1#32 = BitVec.ofNat 32 (2 * k + 1) := by
      apply BitVec.eq_of_toNat_eq
      simp only [Scalar.addi, IntOp.addi, BitVec.toNat_add, BitVec.toNat_ofNat]
      omega
    show Agrees X x i₀ (2 * k + 1 + 1) (stepAt (F := Ideal) X laneF laneI (Scalar.addi (Scalar.muli 2#32 (Scf.iv 0#32 1#32 k)) 1#32)
      (stepAt (F := Ideal) X laneF laneI (Scalar.muli 2#32 (Scf.iv 0#32 1#32 k)) (tripsAt (F := Ideal) X laneF laneI A k)))
    rw [h0, h1]
    exact ((ih (by omega)).next hX (by omega)).next hX (by omega)

/-- Before the first step they agree. -/
theorem Agrees.start {X : S3x32x8x512.Idx → EReal} {I : IVec S8x1 32} {x : FVec Ideal S8x16384x3 .f32} {i₀ : IVec S8 32}
    (hI : ∀ b : Fin 8, I (ix2 b 0) = i₀ (ix1 b)) (hi : ∀ b : Fin 8, ∃ p, p < 16384 ∧ i₀ (ix1 b) = BitVec.ofNat 32 p) :
    Agrees X x i₀ 0 (startAt (F := Ideal) X I M₀ C₀) := by
  have hM : (startAt (F := Ideal) X I M₀ C₀).M = M₀ := fillsAt_all M₀ fun _ _ => rfl
  have hM₀ : ∀ c b l, (M₀ : Mins Ideal) c (ix2 b l) = (⊤ : EReal) := fun c b l => bits_top
  refine ⟨?_, ?_, fun b => ?_, fun b j => ?_⟩
  · rw [hM]
    intro c _ b l
    rw [hM₀]
    exact le_top
  · rw [hM]
    intro b q _
    unfold minOf
    rw [hM₀, Ideal.sqrt_top]
    exact bits_top
  · obtain ⟨p, hp, he⟩ := hi b
    have hIb : I (ix2 b 0) = BitVec.ofNat 32 p := (hI b).trans he
    obtain ⟨hx, hy, hz⟩ := firstsAt_apply X I b p hp hIb 32 0 (Nat.zero_add 32) cen0
    have hz0 : Ideal.ofBits .f32 0x00000000#32 = (0 : EReal) := Ideal.ofBits_zero_f32
    have c0 : (cen0 : Cen Ideal).x (ix2 b 0) = 0 ∧ (cen0 : Cen Ideal).y (ix2 b 0) = 0 ∧ (cen0 : Cen Ideal).z (ix2 b 0) = 0 := ⟨hz0, hz0, hz0⟩
    rw [c0.1, if_pos (Nat.zero_le _), zero_add] at hx
    rw [c0.2.1, if_pos (Nat.zero_le _), zero_add] at hy
    rw [c0.2.2, if_pos (Nat.zero_le _), zero_add] at hz
    exact ⟨p, hp, hIb, he, hx, hy, hz⟩
  · rfl

/-- The kernel's result is the reference's. -/
theorem outAt_eq {X : S3x32x8x512.Idx → EReal} {I : IVec S8x1 32} {x : FVec Ideal S8x16384x3 .f32} {i₀ : IVec S8 32}
    (hX : ∀ (d : Fin 3) (b : Fin 8) (p : ℕ) (hp : p < 16384), pt X d b p = x (ix3 b ⟨p, hp⟩ d))
    (hI : ∀ b : Fin 8, I (ix2 b 0) = i₀ (ix1 b)) (hi : ∀ b : Fin 8, ∃ p, p < 16384 ∧ i₀ (ix1 b) = BitVec.ofNat 32 p) :
    outAt (F := Ideal) X I = outOf x i₀ := by
  have h := (Agrees.start (X := X) (x := x) hI hi).trips hX 256 le_rfl
  have hout : ∀ (b : Fin 8) (j : Fin 512), outAt (F := Ideal) X I (ix2 b j) = outOf x i₀ (ix2 b j) := fun b j => by
    unfold outAt bodyAt
    rw [trips_eq, h.record b j]
    unfold outOf
    pointwise
  funext i
  have hi : i = ix2 (i 0) (i 1) := by
    funext a
    match a with
    | ⟨0, _⟩ => rfl
    | ⟨1, _⟩ => rfl
  rw [hi]
  exact hout (i 0) (i 1)

end Cert.KernelIdeal.Shape

end

end
-- ==== Proof.Value.lean ====
/-
The kernel's result array after a run, as `outAt` of the staged points and first indices, and what the staged arrays
hold of the arguments.
-/
module
public import proofs.«01_k».proof.Proof.Launch
public import proofs.«01_k».proof.Proof.LaneFold
public import Idealize.ShloMosaic.Lib.Pipeline.ValueKit
public import Idealize.ShloMosaic.Lib.Claim
public import Idealize.ShloMosaic.Lib.Pointwise
@[expose] public section
noncomputable section
namespace Cert.KernelIdeal.Shape
open Idealize.ShloMosaic Idealize.ShloMosaic.TcCoe Idealize.ShloMosaic.Tactic
open Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The one point of the launch. -/
abbrev only : Fin cfg0.N := ⟨0, by decide⟩

/-- Every window's block index is zero. -/
theorem index_zero : win0_0.index only = ![0, 0, 0, 0] ∧ win0_1.index only = ![0, 0] := by decide +kernel

/-- The points' block is the whole staged array. -/
theorem iblk0_eq (c : Dev nD) : iblk m c 0 only = V m c main_v2 := by
  blk_ext! [iblk, index_zero]

/-- The first indices' block is the whole staged array. -/
theorem iblk1_eq (c : Dev nD) : iblk m c 1 only = V m c main_v3 := by
  blk_ext! [iblk, index_zero]

/-- The result array at the end of the run. -/
theorem final (c : Dev nD) : (dats m 0 c).arrAt 2 cfg0.N = outAt (F := Ideal) (V m c main_v2) (V m c main_v3) := by
  refine (dats m 0 c).arrAt_eq_of_after_last 2 only (by decide +kernel) _ fun j => ?_
  blk_simp
  rw [after2, iblk0_eq, iblk1_eq]

/-- The staged points, at coordinate `d` of point `p` of row `b`. -/
theorem staged_pt (c : Dev nD) (d : Fin 3) (b : Fin 8) (p : ℕ) (hp : p < 16384) :
    pt (V m c main_v2) d b p = (m ((c.tc : Thread nD τ).loc main_arg0) : FVec Ideal S8x16384x3 .f32) (ix3 b ⟨p, hp⟩ d) := by
  unfold pt
  entry_read
  pointwise
  exact congrArg (fun q : Fin 16384 => (m ((c.tc : Thread nD τ).loc main_arg0) : FVec Ideal S8x16384x3 .f32) (ix3 b q d))
    (Fin.ext (show p / 512 % 32 * 512 + p % 512 = p by omega))

/-- The staged first index of row `b`. -/
theorem staged_first (c : Dev nD) (b : Fin 8) :
    (V m c main_v3 : IVec S8x1 32) (ix2 b 0) = (m ((c.tc : Thread nD τ).loc main_arg1) : IVec S8 32) (ix1 b) := by
  entry_read
  pointwise

end Cert.KernelIdeal.Shape
-- ==== Proof.Result.lean ====
/-
The kernel's result is the reference's: both runs end with the same indices.
-/
module
public import proofs.«01_k».proof.Defs
public import proofs.«01_k».proof.Proof.Gen.Pre_first_index_names_a_point
public import proofs.«01_k».proof.Proof.Agree
public import proofs.«01_k».proof.Proof.RefRun
public import proofs.«01_k».proof.Proof.Value
public import Idealize.ShloMosaic.Lib.ReduceAll
public import Idealize.ShloMosaic.Lib.Claim
public import Idealize.ShloMosaic.Lib.Pointwise
@[expose] public section
noncomputable section
namespace Cert.Proof
open Idealize.ShloMosaic Idealize.ShloMosaic.TcCoe Idealize.SL.Sem

/-- A word between 0 and 16384 as a signed integer is a point's position. -/
theorem position_of_bounds (v : BitVec 32) (h0 : 0 ≤ v.toInt) (h1 : v.toInt < 16384) : ∃ p, p < 16384 ∧ v = BitVec.ofNat 32 p := by
  refine ⟨v.toNat, ?_, by rw [BitVec.ofNat_toNat, BitVec.setWidth_eq]⟩
  rw [BitVec.toInt_eq_toNat_cond] at h0 h1
  have := v.isLt
  split at h0 <;> split at h1 <;> omega

/-- A word compared at least 0 is nonnegative. -/
theorem sge_zero {v : BitVec 32} (h : IntOp.cmpi .sge v 0#32 = 1#1) : 0 ≤ v.toInt := by
  have h : BitVec.ofBool ((0#32).sle v) = 1#1 := h
  by_contra hn
  rw [show (0#32).sle v = false by simp only [BitVec.sle, BitVec.toInt_zero, decide_eq_false_iff_not]; exact hn] at h
  exact absurd h (by decide)

/-- A word compared below 16384 is below it. -/
theorem slt_bound {v : BitVec 32} (h : IntOp.cmpi .slt v 16384#32 = 1#1) : v.toInt < 16384 := by
  have h : BitVec.ofBool (v.slt 16384#32) = 1#1 := h
  by_contra hn
  rw [show v.slt 16384#32 = false by simp only [BitVec.slt, decide_eq_false_iff_not]; exact hn] at h
  exact absurd h (by decide)

/-- Where the precondition holds every row's first index is a point's position. -/
theorem positions_of_pre (x : FVec Ideal ⟨3, ![8, 16384, 3]⟩ .f32) (i : IVec ⟨1, ![8]⟩ 32)
    (h : Cert.Pre_first_index_names_a_point.fn (F := Ideal) x i = fun _ => 1#1) (b : Fin 8) :
    ∃ p, p < 16384 ∧ i (ix1 b) = BitVec.ofNat 32 p := by
  have h := congrFun h (fun a => a.elim0)
  unfold Cert.Pre_first_index_names_a_point.fn at h
  dsimp only at h
  haveI : Subsingleton Cert.Pre_first_index_names_a_point.S_.Idx := ⟨fun a b => funext fun k => k.elim0⟩
  have hb := Host.reduce_andi_all _ _ _ _ _ h (ix1 b)
  obtain ⟨h0, h1⟩ := IntOp.andi_eq_one.1 hb
  have h0 : IntOp.cmpi .sge (i (ix1 b)) 0#32 = 1#1 := h0
  have h1 : IntOp.cmpi .slt (i (ix1 b)) 16384#32 = 1#1 := h1
  exact position_of_bounds _ (sge_zero h0) (slt_bound h1)

/-- The kernel's run: its result is `outAt` of the staged arrays, and its arguments end unchanged. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v4)
        = Cert.KernelIdeal.Shape.outAt (F := Ideal) (Cert.KernelIdeal.Gen.V m c Cert.KernelIdeal.main_v2) (Cert.KernelIdeal.Gen.V m c Cert.KernelIdeal.main_v3)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  θ_run_mono (θ_run_and (Cert.KernelIdeal.Shape.run_quiet m g) (Cert.KernelIdeal.Shape.frame m g)) fun r h c =>
    ⟨(h.1.1.out_eq c 2).trans (Cert.KernelIdeal.Shape.final m c), h.2.1 c⟩

/-- On the same arguments, of which each first index names a point, both runs end with the same indices. -/
theorem algebraic : Cert.algebraic_KernelIdeal_ReferenceIdeal_pre_first_index_names_a_point := by
  intro m g m' g' hpre hagree
  refine ⟨fun c => Cert.KernelIdeal.Shape.outAt (F := Ideal) (Cert.KernelIdeal.Gen.V m c Cert.KernelIdeal.main_v2) (Cert.KernelIdeal.Gen.V m c Cert.KernelIdeal.main_v3),
    kernel_run m g, θ_run_mono (Cert.ReferenceIdeal.Steps.run m' g') fun r h c => ⟨(h.1 c).1.trans ?_, (h.1 c).2⟩⟩
  rw [show Cert.ReferenceIdeal.Steps.x₀ m' c = _ from (hagree c).1, show Cert.ReferenceIdeal.Steps.i₀ m' c = _ from (hagree c).2]
  exact (Cert.KernelIdeal.Shape.outAt_eq (fun d b p hp => Cert.KernelIdeal.Shape.staged_pt m c d b p hp)
    (fun b => Cert.KernelIdeal.Shape.staged_first m c b) (positions_of_pre _ _ (hpre c))).symm

end Cert.Proof
-- ==== Proof.lean ====
/-
The certificate's claim: the frames of the three programs, `preserves`, and the equality of the kernel's result with
the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Same
public import proofs.«01_k».proof.Proof.RefRun
public import proofs.«01_k».proof.Proof.Gen.Pre_first_index_names_a_point
public import proofs.«01_k».proof.Proof.Result

@[expose] public section

noncomputable section

open Idealize.ShloMosaic

/-- Every claim of the certificate. -/
theorem Cert.Proof.claim : Cert.Claim :=
  ⟨inferInstance, inferInstance, inferInstance, inferInstance, Cert.Proof.frame_Kernel,
    fun m g _ => Cert.KernelIdeal.Shape.frame m g, fun m g _ => Cert.KernelIdeal.Shape.frame m g,
    Cert.Proof.frame_ReferenceIdeal, fun m g _ => Cert.Proof.frame_ReferenceIdeal m g trivial, trivial, Cert.Proof.algebraic⟩
